-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩

class Facts : Prop where
  bitsLt_bf16_f32 : FTy.bits .bf16 < FTy.bits .f32
  bcast_S_S512x512 : S_.BroadcastsInDim S512x512 (![] : Fin 0 → Fin S512x512.rank)
  reducesTo_S512x512_S_d0_1 : S512x512.ReducesTo [0, 1] S_
  h_S_ : 0 < S_.numel
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x128x512 .bf16) (main_arg1 : FVec F S512x512 .bf16) (main_arg2 : FVec F S2x128x64x64 .bf16) (main_arg3 : FVec F S2x128x64x64 .bf16) (main_arg4 : FVec F S512x512 .bf16) : IVec S_ 1 :=
  let main_v0 : FVec F S512x512 .f32 := (extf .f32 · bitsLt_bf16_f32) main_arg1
  let main_v1 : FVec F S512x512 .f32 := Host.absf main_v0
  let main_cst : FVec F S_ .f32 := constant S_ .f32 0x7F800000#32
  let main_v2 : FVec F S512x512 .f32 := broadcastInDim S512x512 ![] bcast_S_S512x512 main_cst
  let main_v3 : IVec S512x512 1 := cmpf .olt main_v1 main_v2
  let main_c : IVec S_ 1 := constantI S_ 1 1#1
  let main_v4 : IVec S_ 1 := (fun x v => Host.reduce IntOp.andi x v reducesTo_S512x512_S_d0_1 h_S_) main_v3 main_c
  let main_v5 : FVec F S2x128x64x64 .f32 := (extf .f32 · bitsLt_bf16_f32) main_arg2
  let main_v6 : FVec F S2x128x64x64 .f32 := Host.absf main_v5
  let main_cst_0 : FVec F S_ .f32 := constant S_ .f32 0x7F800000#32
  let main_v7 : FVec F S2x128x64x64 .f32 := broadcastInDim S2x128x64x64 ![] bcast_S_S2x128x64x64 main_cst_0
  let main_v8 : IVec S2x128x64x64 1 := cmpf .olt main_v6 main_v7
  let main_c_1 : IVec S_ 1 := constantI S_ 1 1#1
  let main_v9 : IVec S_ 1 := (fun x v => Host.reduce IntOp.andi x v reducesTo_S2x128x64x64_S_d0_1_2_3 h_S_) main_v8 main_c_1
  let main_v10 : IVec S_ 1 := andi main_v4 main_v9
  main_v10
-- ==== Pre_finite_ReferenceIdeal.lean ====
abbrev S2x1024x512 : Shape := ⟨3, ![2, 1024, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩

class Facts : Prop where
  bitsLt_bf16_f32 : FTy.bits .bf16 < FTy.bits .f32
  bcast_S_S512x4096 : S_.BroadcastsInDim S512x4096 (![] : Fin 0 → Fin S512x4096.rank)
  reducesTo_S512x4096_S_d0_1 : S512x4096.ReducesTo [0, 1] S_
  h_S_ : 0 < S_.numel
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x1024x512 .bf16) (main_arg1 : FVec F S512x4096 .bf16) (main_arg2 : FVec F S2x128x64x64 .bf16) (main_arg3 : FVec F S2x128x64x64 .bf16) (main_arg4 : FVec F S4096x512 .bf16) : IVec S_ 1 :=
  let main_v0 : FVec F S512x4096 .f32 := (extf .f32 · bitsLt_bf16_f32) main_arg1
  let main_v1 : FVec F S512x4096 .f32 := Host.absf main_v0
  let main_cst : FVec F S_ .f32 := constant S_ .f32 0x7F800000#32
  let main_v2 : FVec F S512x4096 .f32 := broadcastInDim S512x4096 ![] bcast_S_S512x4096 main_cst
  let main_v3 : IVec S512x4096 1 := cmpf .olt main_v1 main_v2
  let main_c : IVec S_ 1 := constantI S_ 1 1#1
  let main_v4 : IVec S_ 1 := (fun x v => Host.reduce IntOp.andi x v reducesTo_S512x4096_S_d0_1 h_S_) main_v3 main_c
  let main_v5 : FVec F S2x128x64x64 .f32 := (extf .f32 · bitsLt_bf16_f32) main_arg2
  let main_v6 : FVec F S2x128x64x64 .f32 := Host.absf main_v5
  let main_cst_0 : FVec F S_ .f32 := constant S_ .f32 0x7F800000#32
  let main_v7 : FVec F S2x128x64x64 .f32 := broadcastInDim S2x128x64x64 ![] bcast_S_S2x128x64x64 main_cst_0
  let main_v8 : IVec S2x128x64x64 1 := cmpf .olt main_v6 main_v7
  let main_c_1 : IVec S_ 1 := constantI S_ 1 1#1
  let main_v9 : IVec S_ 1 := (fun x v => Host.reduce IntOp.andi x v reducesTo_S2x128x64x64_S_d0_1_2_3 h_S_) main_v8 main_c_1
  let main_v10 : IVec S_ 1 := andi main_v4 main_v9
  main_v10
-- ==== Kernel.lean ====
abbrev S2x128x512 : Shape := ⟨3, ![2, 128, 512]⟩
abbrev S512x512 : Shape := ⟨2, ![512, 512]⟩
abbrev S2x128x64x64 : Shape := ⟨4, ![2, 128, 64, 64]⟩
abbrev S7x2x128x512 : Shape := ⟨4, ![7, 2, 128, 512]⟩
abbrev S7x8x128 : Shape := ⟨3, ![7, 8, 128]⟩
abbrev S7 : Shape := ⟨1, ![7]⟩
abbrev S_ : Shape := ⟨0, ![]⟩
abbrev S1 : Shape := ⟨1, ![1]⟩
abbrev S1x2x128x512 : Shape := ⟨4, ![1, 2, 128, 512]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S1x1x1 : Shape := ⟨3, ![1, 1, 1]⟩
abbrev S256x512 : Shape := ⟨2, ![256, 512]⟩
abbrev S16x128x128 : Shape := ⟨3, ![16, 128, 128]⟩
abbrev S16x128 : Shape := ⟨2, ![16, 128]⟩
abbrev S16x128x1 : Shape := ⟨3, ![16, 128, 1]⟩
abbrev S512 : Shape := ⟨1, ![512]⟩
abbrev S1x512 : Shape := ⟨2, ![1, 512]⟩
abbrev S1x1 : Shape := ⟨2, ![1, 1]⟩
abbrev S8x128 : Shape := ⟨2, ![8, 128]⟩
abbrev S1x8x128 : Shape := ⟨3, ![1, 8, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x64x64, .bf16⟩
  | .hbm, ⟨3, _⟩ => ⟨S2x128x64x64, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x64x64, .bf16⟩
  | .local _ .vmem, ⟨4, _⟩ => ⟨S2x128x64x64, .bf16⟩
  | .local _ .vmem, ⟨5, _⟩ => ⟨S2x128x512, .f32⟩
  | .local _ .vmem, ⟨6, _⟩ => ⟨S2x128x512, .i8⟩
  | .local _ .vmem, ⟨7, _⟩ => ⟨S7x2x128x512, .i8⟩
  | .local _ .vmem, ⟨8, _⟩ => ⟨S7x2x128x512, .i8⟩
  | .local _ .vmem, ⟨9, _⟩ => ⟨S7x2x128x512, .i8⟩
  | .local _ .vmem, ⟨10, _⟩ => ⟨S7x8x128, .f32⟩
  | .local _ .vmem, ⟨11, _⟩ => ⟨S7x8x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v110 : BitVec 32 := Scalar.addi v2 c1_i32_69
  let c8_i32_70 : BitVec 32 := 8#32
  let c0_i32_71 : BitVec 32 := 0#32
  let v111 : BitVec 1 := Scalar.cmpi .eq c8_i32_70 c0_i32_71
  let c1_i32_72 : BitVec 32 := 1#32
  let v112 : BitVec 32 := Scalar.select v111 c1_i32_72 c8_i32_70
  let v113 : BitVec 32 := Scalar.remsi v110 v112
  let c0_i32_74 : BitVec 32 := 0#32
  let v115 : BitVec 1 := Scalar.cmpi .slt v113 c0_i32_74
  let c0_i32_75 : BitVec 32 := 0#32
  let v116 : BitVec 1 := Scalar.cmpi .slt v112 c0_i32_75
  let v117 : BitVec 1 := Scalar.xori v115 v116
  let c0_i32_73 : BitVec 32 := 0#32
  let v114 : BitVec 1 := Scalar.cmpi .ne v113 c0_i32_73
  let v118 : BitVec 1 := Scalar.andi v117 v114
  let v119 : BitVec 32 := Scalar.addi v113 v112
  let v120 : BitVec 32 := Scalar.select v118 v119 v113
  let c1_i32_79 : BitVec 32 := 1#32
  let v121 : BitVec 32 := Scalar.muli v120 c1_i32_79
  let v122 : BitVec 32 := Scalar.addi c0_i32_80 v121
  v122.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v129 : BitVec 32 := Scalar.addi v2 c2_i32_84
  let c8_i32_85 : BitVec 32 := 8#32
  let c0_i32_86 : BitVec 32 := 0#32
  let v130 : BitVec 1 := Scalar.cmpi .eq c8_i32_85 c0_i32_86
  let c1_i32_87 : BitVec 32 := 1#32
  let v131 : BitVec 32 := Scalar.select v130 c1_i32_87 c8_i32_85
  let v132 : BitVec 32 := Scalar.remsi v129 v131
  let c0_i32_89 : BitVec 32 := 0#32
  let v134 : BitVec 1 := Scalar.cmpi .slt v132 c0_i32_89
  let c0_i32_90 : BitVec 32 := 0#32
  let v135 : BitVec 1 := Scalar.cmpi .slt v131 c0_i32_90
  let v136 : BitVec 1 := Scalar.xori v134 v135
  let c0_i32_88 : BitVec 32 := 0#32
  let v133 : BitVec 1 := Scalar.cmpi .ne v132 c0_i32_88
  let v137 : BitVec 1 := Scalar.andi v136 v133
  let v138 : BitVec 32 := Scalar.addi v132 v131
  let v139 : BitVec 32 := Scalar.select v137 v138 v132
  let c1_i32_94 : BitVec 32 := 1#32
  let v140 : BitVec 32 := Scalar.muli v139 c1_i32_94
  let v141 : BitVec 32 := Scalar.addi c0_i32_95 v140
  v141.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_99 : BitVec 32 := 3#32
  let v148 : BitVec 32 := Scalar.addi v2 c3_i32_99
  let c8_i32_100 : BitVec 32 := 8#32
  let c0_i32_101 : BitVec 32 := 0#32
  let v149 : BitVec 1 := Scalar.cmpi .eq c8_i32_100 c0_i32_101
  let c1_i32_102 : BitVec 32 := 1#32
  let v150 : BitVec 32 := Scalar.select v149 c1_i32_102 c8_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let c1_i32_109 : BitVec 32 := 1#32
  let v159 : BitVec 32 := Scalar.muli v158 c1_i32_109
  let v160 : BitVec 32 := Scalar.addi c0_i32_110 v159
  v160.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v167 : BitVec 32 := Scalar.addi v2 c4_i32_114
  let c8_i32_115 : BitVec 32 := 8#32
  let c0_i32_116 : BitVec 32 := 0#32
  let v168 : BitVec 1 := Scalar.cmpi .eq c8_i32_115 c0_i32_116
  let c1_i32_117 : BitVec 32 := 1#32
  let v169 : BitVec 32 := Scalar.select v168 c1_i32_117 c8_i32_115
  let v170 : BitVec 32 := Scalar.remsi v167 v169
  let c0_i32_119 : BitVec 32 := 0#32
  let v172 : BitVec 1 := Scalar.cmpi .slt v170 c0_i32_119
  let c0_i32_120 : BitVec 32 := 0#32
  let v173 : BitVec 1 := Scalar.cmpi .slt v169 c0_i32_120
  let v174 : BitVec 1 := Scalar.xori v172 v173
  let c0_i32_118 : BitVec 32 := 0#32
  let v171 : BitVec 1 := Scalar.cmpi .ne v170 c0_i32_118
  let v175 : BitVec 1 := Scalar.andi v174 v171
  let v176 : BitVec 32 := Scalar.addi v170 v169
  let v177 : BitVec 32 := Scalar.select v175 v176 v170
  let c1_i32_124 : BitVec 32 := 1#32
  let v178 : BitVec 32 := Scalar.muli v177 c1_i32_124
  let v179 : BitVec 32 := Scalar.addi c0_i32_125 v178
  v179.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v186 : BitVec 32 := Scalar.addi v2 c5_i32_129
  let c8_i32_130 : BitVec 32 := 8#32
  let c0_i32_131 : BitVec 32 := 0#32
  let v187 : BitVec 1 := Scalar.cmpi .eq c8_i32_130 c0_i32_131
  let c1_i32_132 : BitVec 32 := 1#32
  let v188 : BitVec 32 := Scalar.select v187 c1_i32_132 c8_i32_130
  let v189 : BitVec 32 := Scalar.remsi v186 v188
  let c0_i32_134 : BitVec 32 := 0#32
  let v191 : BitVec 1 := Scalar.cmpi .slt v189 c0_i32_134
  let c0_i32_135 : BitVec 32 := 0#32
  let v192 : BitVec 1 := Scalar.cmpi .slt v188 c0_i32_135
  let v193 : BitVec 1 := Scalar.xori v191 v192
  let c0_i32_133 : BitVec 32 := 0#32
  let v190 : BitVec 1 := Scalar.cmpi .ne v189 c0_i32_133
  let v194 : BitVec 1 := Scalar.andi v193 v190
  let v195 : BitVec 32 := Scalar.addi v189 v188
  let v196 : BitVec 32 := Scalar.select v194 v195 v189
  let c1_i32_139 : BitVec 32 := 1#32
  let v197 : BitVec 32 := Scalar.muli v196 c1_i32_139
  let v198 : BitVec 32 := Scalar.addi c0_i32_140 v197
  v198.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_144 : BitVec 32 := 6#32
  let v205 : BitVec 32 := Scalar.addi v2 c6_i32_144
  let c8_i32_145 : BitVec 32 := 8#32
  let c0_i32_146 : BitVec 32 := 0#32
  let v206 : BitVec 1 := Scalar.cmpi .eq c8_i32_145 c0_i32_146
  let c1_i32_147 : BitVec 32 := 1#32
  let v207 : BitVec 32 := Scalar.select v206 c1_i32_147 c8_i32_145
  let v208 : BitVec 32 := Scalar.remsi v205 v207
  let c0_i32_149 : BitVec 32 := 0#32
  let v210 : BitVec 1 := Scalar.cmpi .slt v208 c0_i32_149
  let c0_i32_150 : BitVec 32 := 0#32
  let v211 : BitVec 1 := Scalar.cmpi .slt v207 c0_i32_150
  let v212 : BitVec 1 := Scalar.xori v210 v211
  let c0_i32_148 : BitVec 32 := 0#32
  let v209 : BitVec 1 := Scalar.cmpi .ne v208 c0_i32_148
  let v213 : BitVec 1 := Scalar.andi v212 v209
  let v214 : BitVec 32 := Scalar.addi v208 v207
  let v215 : BitVec 32 := Scalar.select v213 v214 v208
  let c1_i32_154 : BitVec 32 := 1#32
  let v216 : BitVec 32 := Scalar.muli v215 c1_i32_154
  let v217 : BitVec 32 := Scalar.addi c0_i32_155 v216
  v217.toNat
def k0_dev14 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v224 : BitVec 32 := Scalar.addi v2 c7_i32_159
  let c8_i32_160 : BitVec 32 := 8#32
  let c0_i32_161 : BitVec 32 := 0#32
  let v225 : BitVec 1 := Scalar.cmpi .eq c8_i32_160 c0_i32_161
  let c1_i32_162 : BitVec 32 := 1#32
  let v226 : BitVec 32 := Scalar.select v225 c1_i32_162 c8_i32_160
  let v227 : BitVec 32 := Scalar.remsi v224 v226
  let c0_i32_164 : BitVec 32 := 0#32
  let v229 : BitVec 1 := Scalar.cmpi .slt v227 c0_i32_164
  let c0_i32_165 : BitVec 32 := 0#32
  let v230 : BitVec 1 := Scalar.cmpi .slt v226 c0_i32_165
  let v231 : BitVec 1 := Scalar.xori v229 v230
  let c0_i32_163 : BitVec 32 := 0#32
  let v228 : BitVec 1 := Scalar.cmpi .ne v227 c0_i32_163
  let v232 : BitVec 1 := Scalar.andi v231 v228
  let v233 : BitVec 32 := Scalar.addi v227 v226
  let v234 : BitVec 32 := Scalar.select v232 v233 v227
  let c1_i32_169 : BitVec 32 := 1#32
  let v235 : BitVec 32 := Scalar.muli v234 c1_i32_169
  let v236 : BitVec 32 := Scalar.addi c0_i32_170 v235
  v236.toNat
def k0_off1 (d0 : Dev nD) : Fin 4 → Nat :=
  let c0_175 : Index := 0#32
  let c0_176 : Index := 0#32
  let c8_i32_174 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v243 : BitVec 32 := Scalar.muli c8_i32_174 v2
  let v244 : Index := Scalar.indexCast v243
  let c0_177 : Index := 0#32
  ![0, 0, v244.toNat, 0]
def k0_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v358 : BitVec 32 := Scalar.subi v2 c1_i32_230
  let c0_i32_231 : BitVec 32 := 0#32
  let v359 : BitVec 32 := Scalar.subi v358 c0_i32_231
  let c8_i32_232 : BitVec 32 := 8#32
  let c0_i32_233 : BitVec 32 := 0#32
  let v360 : BitVec 1 := Scalar.cmpi .eq c8_i32_232 c0_i32_233
  let c1_i32_234 : BitVec 32 := 1#32
  let v361 : BitVec 32 := Scalar.select v360 c1_i32_234 c8_i32_232
  let v362 : BitVec 32 := Scalar.remsi v359 v361
  let c0_i32_236 : BitVec 32 := 0#32
  let v364 : BitVec 1 := Scalar.cmpi .slt v362 c0_i32_236
  let c0_i32_237 : BitVec 32 := 0#32
  let v365 : BitVec 1 := Scalar.cmpi .slt v361 c0_i32_237
  let v366 : BitVec 1 := Scalar.xori v364 v365
  let c0_i32_235 : BitVec 32 := 0#32
  let v363 : BitVec 1 := Scalar.cmpi .ne v362 c0_i32_235
  let v367 : BitVec 1 := Scalar.andi v366 v363
  let v368 : BitVec 32 := Scalar.addi v362 v361
  let v369 : BitVec 32 := Scalar.select v367 v368 v362
  let c1_i32_242 : BitVec 32 := 1#32
  let v370 : BitVec 32 := Scalar.muli v369 c1_i32_242
  let v371 : BitVec 32 := Scalar.addi c0_i32_243 v370
  v371.toNat
def k0_dev16 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v358 : BitVec 32 := Scalar.subi v2 c1_i32_230
  let c0_i32_231 : BitVec 32 := 0#32
  let v359 : BitVec 32 := Scalar.subi v358 c0_i32_231
  let c8_i32_232 : BitVec 32 := 8#32
  let c0_i32_233 : BitVec 32 := 0#32
  let v360 : BitVec 1 := Scalar.cmpi .eq c8_i32_232 c0_i32_233
  let c1_i32_234 : BitVec 32 := 1#32
  let v361 : BitVec 32 := Scalar.select v360 c1_i32_234 c8_i32_232
  let v362 : BitVec 32 := Scalar.remsi v359 v361
  let c0_i32_236 : BitVec 32 := 0#32
  let v364 : BitVec 1 := Scalar.cmpi .slt v362 c0_i32_236
  let c0_i32_237 : BitVec 32 := 0#32
  let v365 : BitVec 1 := Scalar.cmpi .slt v361 c0_i32_237
  let v366 : BitVec 1 := Scalar.xori v364 v365
  let c0_i32_235 : BitVec 32 := 0#32
  let v363 : BitVec 1 := Scalar.cmpi .ne v362 c0_i32_235
  let v367 : BitVec 1 := Scalar.andi v366 v363
  let v368 : BitVec 32 := Scalar.addi v362 v361
  let v369 : BitVec 32 := Scalar.select v367 v368 v362
  let c1_i32_254 : BitVec 32 := 1#32
  let v380 : BitVec 32 := Scalar.muli v369 c1_i32_254
  let v381 : BitVec 32 := Scalar.addi c0_i32_255 v380
  v381.toNat
def k0_dev17 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_292 : BitVec 32 := 1#32
  let v460 : BitVec 32 := Scalar.subi v2 c1_i32_292
  let c1_i32_293 : BitVec 32 := 1#32
  let v461 : BitVec 32 := Scalar.subi v460 c1_i32_293
  let c8_i32_294 : BitVec 32 := 8#32
  let c0_i32_295 : BitVec 32 := 0#32
  let v462 : BitVec 1 := Scalar.cmpi .eq c8_i32_294 c0_i32_295
  let c1_i32_296 : BitVec 32 := 1#32
  let v463 : BitVec 32 := Scalar.select v462 c1_i32_296 c8_i32_294
  let v464 : BitVec 32 := Scalar.remsi v461 v463
  let c0_i32_298 : BitVec 32 := 0#32
  let v466 : BitVec 1 := Scalar.cmpi .slt v464 c0_i32_298
  let c0_i32_299 : BitVec 32 := 0#32
  let v467 : BitVec 1 := Scalar.cmpi .slt v463 c0_i32_299
  let v468 : BitVec 1 := Scalar.xori v466 v467
  let c0_i32_297 : BitVec 32 := 0#32
  let v465 : BitVec 1 := Scalar.cmpi .ne v464 c0_i32_297
  let v469 : BitVec 1 := Scalar.andi v468 v465
  let v470 : BitVec 32 := Scalar.addi v464 v463
  let v471 : BitVec 32 := Scalar.select v469 v470 v464
  let c1_i32_304 : BitVec 32 := 1#32
  let v472 : BitVec 32 := Scalar.muli v471 c1_i32_304
  let v473 : BitVec 32 := Scalar.addi c0_i32_305 v472
  v473.toNat
def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_292 : BitVec 32 := 1#32
  let v460 : BitVec 32 := Scalar.subi v2 c1_i32_292
  let c1_i32_293 : BitVec 32 := 1#32
  let v461 : BitVec 32 := Scalar.subi v460 c1_i32_293
  let c8_i32_294 : BitVec 32 := 8#32
  let c0_i32_295 : BitVec 32 := 0#32
  let v462 : BitVec 1 := Scalar.cmpi .eq c8_i32_294 c0_i32_295
  let c1_i32_296 : BitVec 32 := 1#32
  let v463 : BitVec 32 := Scalar.select v462 c1_i32_296 c8_i32_294
  let v464 : BitVec 32 := Scalar.remsi v461 v463
  let c0_i32_298 : BitVec 32 := 0#32
  let v466 : BitVec 1 := Scalar.cmpi .slt v464 c0_i32_298
  let c0_i32_299 : BitVec 32 := 0#32
  let v467 : BitVec 1 := Scalar.cmpi .slt v463 c0_i32_299
  let v468 : BitVec 1 := Scalar.xori v466 v467
  let c0_i32_297 : BitVec 32 := 0#32
  let v465 : BitVec 1 := Scalar.cmpi .ne v464 c0_i32_297
  let v469 : BitVec 1 := Scalar.andi v468 v465
  let v470 : BitVec 32 := Scalar.addi v464 v463
  let v471 : BitVec 32 := Scalar.select v469 v470 v464
  let c1_i32_316 : BitVec 32 := 1#32
  let v482 : BitVec 32 := Scalar.muli v471 c1_i32_316
  let v483 : BitVec 32 := Scalar.addi c0_i32_317 v482
  v483.toNat
def k0_dev19 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v562 : BitVec 32 := Scalar.subi v2 c1_i32_354
  let c2_i32_355 : BitVec 32 := 2#32
  let v563 : BitVec 32 := Scalar.subi v562 c2_i32_355
  let c8_i32_356 : BitVec 32 := 8#32
  let c0_i32_357 : BitVec 32 := 0#32
  let v564 : BitVec 1 := Scalar.cmpi .eq c8_i32_356 c0_i32_357
  let c1_i32_358 : BitVec 32 := 1#32
  let v565 : BitVec 32 := Scalar.select v564 c1_i32_358 c8_i32_356
  let v566 : BitVec 32 := Scalar.remsi v563 v565
  let c0_i32_360 : BitVec 32 := 0#32
  let v568 : BitVec 1 := Scalar.cmpi .slt v566 c0_i32_360
  let c0_i32_361 : BitVec 32 := 0#32
  let v569 : BitVec 1 := Scalar.cmpi .slt v565 c0_i32_361
  let v570 : BitVec 1 := Scalar.xori v568 v569
  let c0_i32_359 : BitVec 32 := 0#32
  let v567 : BitVec 1 := Scalar.cmpi .ne v566 c0_i32_359
  let v571 : BitVec 1 := Scalar.andi v570 v567
  let v572 : BitVec 32 := Scalar.addi v566 v565
  let v573 : BitVec 32 := Scalar.select v571 v572 v566
  let c1_i32_366 : BitVec 32 := 1#32
  let v574 : BitVec 32 := Scalar.muli v573 c1_i32_366
  let v575 : BitVec 32 := Scalar.addi c0_i32_367 v574
  v575.toNat
def k0_dev20 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v562 : BitVec 32 := Scalar.subi v2 c1_i32_354
  let c2_i32_355 : BitVec 32 := 2#32
  let v563 : BitVec 32 := Scalar.subi v562 c2_i32_355
  let c8_i32_356 : BitVec 32 := 8#32
  let c0_i32_357 : BitVec 32 := 0#32
  let v564 : BitVec 1 := Scalar.cmpi .eq c8_i32_356 c0_i32_357
  let c1_i32_358 : BitVec 32 := 1#32
  let v565 : BitVec 32 := Scalar.select v564 c1_i32_358 c8_i32_356
  let v566 : BitVec 32 := Scalar.remsi v563 v565
  let c0_i32_360 : BitVec 32 := 0#32
  let v568 : BitVec 1 := Scalar.cmpi .slt v566 c0_i32_360
  let c0_i32_361 : BitVec 32 := 0#32
  let v569 : BitVec 1 := Scalar.cmpi .slt v565 c0_i32_361
  let v570 : BitVec 1 := Scalar.xori v568 v569
  let c0_i32_359 : BitVec 32 := 0#32
  let v567 : BitVec 1 := Scalar.cmpi .ne v566 c0_i32_359
  let v571 : BitVec 1 := Scalar.andi v570 v567
  let v572 : BitVec 32 := Scalar.addi v566 v565
  let v573 : BitVec 32 := Scalar.select v571 v572 v566
  let c1_i32_378 : BitVec 32 := 1#32
  let v584 : BitVec 32 := Scalar.muli v573 c1_i32_378
  let v585 : BitVec 32 := Scalar.addi c0_i32_379 v584
  v585.toNat
def k0_dev21 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v664 : BitVec 32 := Scalar.subi v2 c1_i32_416
  let c3_i32_417 : BitVec 32 := 3#32
  let v665 : BitVec 32 := Scalar.subi v664 c3_i32_417
  let c8_i32_418 : BitVec 32 := 8#32
  let c0_i32_419 : BitVec 32 := 0#32
  let v666 : BitVec 1 := Scalar.cmpi .eq c8_i32_418 c0_i32_419
  let c1_i32_420 : BitVec 32 := 1#32
  let v667 : BitVec 32 := Scalar.select v666 c1_i32_420 c8_i32_418
  let v668 : BitVec 32 := Scalar.remsi v665 v667
  let c0_i32_422 : BitVec 32 := 0#32
  let v670 : BitVec 1 := Scalar.cmpi .slt v668 c0_i32_422
  let c0_i32_423 : BitVec 32 := 0#32
  let v671 : BitVec 1 := Scalar.cmpi .slt v667 c0_i32_423
  let v672 : BitVec 1 := Scalar.xori v670 v671
  let c0_i32_421 : BitVec 32 := 0#32
  let v669 : BitVec 1 := Scalar.cmpi .ne v668 c0_i32_421
  let v673 : BitVec 1 := Scalar.andi v672 v669
  let v674 : BitVec 32 := Scalar.addi v668 v667
  let v675 : BitVec 32 := Scalar.select v673 v674 v668
  let c1_i32_428 : BitVec 32 := 1#32
  let v676 : BitVec 32 := Scalar.muli v675 c1_i32_428
  let v677 : BitVec 32 := Scalar.addi c0_i32_429 v676
  v677.toNat
def k0_dev22 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v664 : BitVec 32 := Scalar.subi v2 c1_i32_416
  let c3_i32_417 : BitVec 32 := 3#32
  let v665 : BitVec 32 := Scalar.subi v664 c3_i32_417
  let c8_i32_418 : BitVec 32 := 8#32
  let c0_i32_419 : BitVec 32 := 0#32
  let v666 : BitVec 1 := Scalar.cmpi .eq c8_i32_418 c0_i32_419
  let c1_i32_420 : BitVec 32 := 1#32
  let v667 : BitVec 32 := Scalar.select v666 c1_i32_420 c8_i32_418
  let v668 : BitVec 32 := Scalar.remsi v665 v667
  let c0_i32_422 : BitVec 32 := 0#32
  let v670 : BitVec 1 := Scalar.cmpi .slt v668 c0_i32_422
  let c0_i32_423 : BitVec 32 := 0#32
  let v671 : BitVec 1 := Scalar.cmpi .slt v667 c0_i32_423
  let v672 : BitVec 1 := Scalar.xori v670 v671
  let c0_i32_421 : BitVec 32 := 0#32
  let v669 : BitVec 1 := Scalar.cmpi .ne v668 c0_i32_421
  let v673 : BitVec 1 := Scalar.andi v672 v669
  let v674 : BitVec 32 := Scalar.addi v668 v667
  let v675 : BitVec 32 := Scalar.select v673 v674 v668
  let c1_i32_440 : BitVec 32 := 1#32
  let v686 : BitVec 32 := Scalar.muli v675 c1_i32_440
  let v687 : BitVec 32 := Scalar.addi c0_i32_441 v686
  v687.toNat
def k0_dev23 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_478 : BitVec 32 := 1#32
  let v766 : BitVec 32 := Scalar.subi v2 c1_i32_478
  let c4_i32_479 : BitVec 32 := 4#32
  let v767 : BitVec 32 := Scalar.subi v766 c4_i32_479
  let c8_i32_480 : BitVec 32 := 8#32
  let c0_i32_481 : BitVec 32 := 0#32
  let v768 : BitVec 1 := Scalar.cmpi .eq c8_i32_480 c0_i32_481
  let c1_i32_482 : BitVec 32 := 1#32
  let v769 : BitVec 32 := Scalar.select v768 c1_i32_482 c8_i32_480
  let v770 : BitVec 32 := Scalar.remsi v767 v769
  let c0_i32_484 : BitVec 32 := 0#32
  let v772 : BitVec 1 := Scalar.cmpi .slt v770 c0_i32_484
  let c0_i32_485 : BitVec 32 := 0#32
  let v773 : BitVec 1 := Scalar.cmpi .slt v769 c0_i32_485
  let v774 : BitVec 1 := Scalar.xori v772 v773
  let c0_i32_483 : BitVec 32 := 0#32
  let v771 : BitVec 1 := Scalar.cmpi .ne v770 c0_i32_483
  let v775 : BitVec 1 := Scalar.andi v774 v771
  let v776 : BitVec 32 := Scalar.addi v770 v769
  let v777 : BitVec 32 := Scalar.select v775 v776 v770
  let c1_i32_490 : BitVec 32 := 1#32
  let v778 : BitVec 32 := Scalar.muli v777 c1_i32_490
  let v779 : BitVec 32 := Scalar.addi c0_i32_491 v778
  v779.toNat
def k0_dev24 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_478 : BitVec 32 := 1#32
  let v766 : BitVec 32 := Scalar.subi v2 c1_i32_478
  let c4_i32_479 : BitVec 32 := 4#32
  let v767 : BitVec 32 := Scalar.subi v766 c4_i32_479
  let c8_i32_480 : BitVec 32 := 8#32
  let c0_i32_481 : BitVec 32 := 0#32
  let v768 : BitVec 1 := Scalar.cmpi .eq c8_i32_480 c0_i32_481
  let c1_i32_482 : BitVec 32 := 1#32
  let v769 : BitVec 32 := Scalar.select v768 c1_i32_482 c8_i32_480
  let v770 : BitVec 32 := Scalar.remsi v767 v769
  let c0_i32_484 : BitVec 32 := 0#32
  let v772 : BitVec 1 := Scalar.cmpi .slt v770 c0_i32_484
  let c0_i32_485 : BitVec 32 := 0#32
  let v773 : BitVec 1 := Scalar.cmpi .slt v769 c0_i32_485
  let v774 : BitVec 1 := Scalar.xori v772 v773
  let c0_i32_483 : BitVec 32 := 0#32
  let v771 : BitVec 1 := Scalar.cmpi .ne v770 c0_i32_483
  let v775 : BitVec 1 := Scalar.andi v774 v771
  let v776 : BitVec 32 := Scalar.addi v770 v769
  let v777 : BitVec 32 := Scalar.select v775 v776 v770
  let c1_i32_502 : BitVec 32 := 1#32
  let v788 : BitVec 32 := Scalar.muli v777 c1_i32_502
  let v789 : BitVec 32 := Scalar.addi c0_i32_503 v788
  v789.toNat
def k0_dev25 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_540 : BitVec 32 := 1#32
  let v868 : BitVec 32 := Scalar.subi v2 c1_i32_540
  let c5_i32_541 : BitVec 32 := 5#32
  let v869 : BitVec 32 := Scalar.subi v868 c5_i32_541
  let c8_i32_542 : BitVec 32 := 8#32
  let c0_i32_543 : BitVec 32 := 0#32
  let v870 : BitVec 1 := Scalar.cmpi .eq c8_i32_542 c0_i32_543
  let c1_i32_544 : BitVec 32 := 1#32
  let v871 : BitVec 32 := Scalar.select v870 c1_i32_544 c8_i32_542
  let v872 : BitVec 32 := Scalar.remsi v869 v871
  let c0_i32_546 : BitVec 32 := 0#32
  let v874 : BitVec 1 := Scalar.cmpi .slt v872 c0_i32_546
  let c0_i32_547 : BitVec 32 := 0#32
  let v875 : BitVec 1 := Scalar.cmpi .slt v871 c0_i32_547
  let v876 : BitVec 1 := Scalar.xori v874 v875
  let c0_i32_545 : BitVec 32 := 0#32
  let v873 : BitVec 1 := Scalar.cmpi .ne v872 c0_i32_545
  let v877 : BitVec 1 := Scalar.andi v876 v873
  let v878 : BitVec 32 := Scalar.addi v872 v871
  let v879 : BitVec 32 := Scalar.select v877 v878 v872
  let c1_i32_552 : BitVec 32 := 1#32
  let v880 : BitVec 32 := Scalar.muli v879 c1_i32_552
  let v881 : BitVec 32 := Scalar.addi c0_i32_553 v880
  v881.toNat
def k0_dev26 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_540 : BitVec 32 := 1#32
  let v868 : BitVec 32 := Scalar.subi v2 c1_i32_540
  let c5_i32_541 : BitVec 32 := 5#32
  let v869 : BitVec 32 := Scalar.subi v868 c5_i32_541
  let c8_i32_542 : BitVec 32 := 8#32
  let c0_i32_543 : BitVec 32 := 0#32
  let v870 : BitVec 1 := Scalar.cmpi .eq c8_i32_542 c0_i32_543
  let c1_i32_544 : BitVec 32 := 1#32
  let v871 : BitVec 32 := Scalar.select v870 c1_i32_544 c8_i32_542
  let v872 : BitVec 32 := Scalar.remsi v869 v871
  let c0_i32_546 : BitVec 32 := 0#32
  let v874 : BitVec 1 := Scalar.cmpi .slt v872 c0_i32_546
  let c0_i32_547 : BitVec 32 := 0#32
  let v875 : BitVec 1 := Scalar.cmpi .slt v871 c0_i32_547
  let v876 : BitVec 1 := Scalar.xori v874 v875
  let c0_i32_545 : BitVec 32 := 0#32
  let v873 : BitVec 1 := Scalar.cmpi .ne v872 c0_i32_545
  let v877 : BitVec 1 := Scalar.andi v876 v873
  let v878 : BitVec 32 := Scalar.addi v872 v871
  let v879 : BitVec 32 := Scalar.select v877 v878 v872
  let c1_i32_564 : BitVec 32 := 1#32
  let v890 : BitVec 32 := Scalar.muli v879 c1_i32_564
  let v891 : BitVec 32 := Scalar.addi c0_i32_565 v890
  v891.toNat
def k0_dev27 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_602 : BitVec 32 := 1#32
  let v970 : BitVec 32 := Scalar.subi v2 c1_i32_602
  let c6_i32_603 : BitVec 32 := 6#32
  let v971 : BitVec 32 := Scalar.subi v970 c6_i32_603
  let c8_i32_604 : BitVec 32 := 8#32
  let c0_i32_605 : BitVec 32 := 0#32
  let v972 : BitVec 1 := Scalar.cmpi .eq c8_i32_604 c0_i32_605
  let c1_i32_606 : BitVec 32 := 1#32
  let v973 : BitVec 32 := Scalar.select v972 c1_i32_606 c8_i32_604
  let v974 : BitVec 32 := Scalar.remsi v971 v973
  let c0_i32_608 : BitVec 32 := 0#32
  let v976 : BitVec 1 := Scalar.cmpi .slt v974 c0_i32_608
  let c0_i32_609 : BitVec 32 := 0#32
  let v977 : BitVec 1 := Scalar.cmpi .slt v973 c0_i32_609
  let v978 : BitVec 1 := Scalar.xori v976 v977
  let c0_i32_607 : BitVec 32 := 0#32
  let v975 : BitVec 1 := Scalar.cmpi .ne v974 c0_i32_607
  let v979 : BitVec 1 := Scalar.andi v978 v975
  let v980 : BitVec 32 := Scalar.addi v974 v973
  let v981 : BitVec 32 := Scalar.select v979 v980 v974
  let c1_i32_614 : BitVec 32 := 1#32
  let v982 : BitVec 32 := Scalar.muli v981 c1_i32_614
  let v983 : BitVec 32 := Scalar.addi c0_i32_615 v982
  v983.toNat
def k0_dev28 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_602 : BitVec 32 := 1#32
  let v970 : BitVec 32 := Scalar.subi v2 c1_i32_602
  let c6_i32_603 : BitVec 32 := 6#32
  let v971 : BitVec 32 := Scalar.subi v970 c6_i32_603
  let c8_i32_604 : BitVec 32 := 8#32
  let c0_i32_605 : BitVec 32 := 0#32
  let v972 : BitVec 1 := Scalar.cmpi .eq c8_i32_604 c0_i32_605
  let c1_i32_606 : BitVec 32 := 1#32
  let v973 : BitVec 32 := Scalar.select v972 c1_i32_606 c8_i32_604
  let v974 : BitVec 32 := Scalar.remsi v971 v973
  let c0_i32_608 : BitVec 32 := 0#32
  let v976 : BitVec 1 := Scalar.cmpi .slt v974 c0_i32_608
  let c0_i32_609 : BitVec 32 := 0#32
  let v977 : BitVec 1 := Scalar.cmpi .slt v973 c0_i32_609
  let v978 : BitVec 1 := Scalar.xori v976 v977
  let c0_i32_607 : BitVec 32 := 0#32
  let v975 : BitVec 1 := Scalar.cmpi .ne v974 c0_i32_607
  let v979 : BitVec 1 := Scalar.andi v978 v975
  let v980 : BitVec 32 := Scalar.addi v974 v973
  let v981 : BitVec 32 := Scalar.select v979 v980 v974
  let c1_i32_626 : BitVec 32 := 1#32
  let v992 : BitVec 32 := Scalar.muli v981 c1_i32_626
  let v993 : BitVec 32 := Scalar.addi c0_i32_627 v992
  v993.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩
abbrev S2x1024x4096 : Shape := ⟨3, ![2, 1024, 4096]⟩
abbrev S2x1024x64x64 : Shape := ⟨4, ![2, 1024, 64, 64]⟩
abbrev S2x64x1024x128 : Shape := ⟨4, ![2, 64, 1024, 128]⟩
abbrev S2x64x1024 : Shape := ⟨3, ![2, 64, 1024]⟩
abbrev S2x64x1024x1 : Shape := ⟨4, ![2, 64, 1024, 1]⟩
abbrev S2x64x64x1024 : Shape := ⟨4, ![2, 64, 64, 1024]⟩
abbrev S2x1024x64x1 : Shape := ⟨4, ![2, 1024, 64, 1]⟩
abbrev S2x8x128x8x512 : Shape := ⟨5, ![2, 8, 128, 8, 512]⟩
abbrev S8x512x512 : Shape := ⟨3, ![8, 512, 512]⟩
abbrev S8x512x2x8x128 : Shape := ⟨5, ![8, 512, 2, 8, 128]⟩
abbrev S8x8x2x128x512 : Shape := ⟨5, ![8, 8, 2, 128, 512]⟩
abbrev S8x8 : Shape := ⟨2, ![8, 8]⟩
abbrev S8x8x1x1x1 : Shape := ⟨5, ![8, 8, 1, 1, 1]⟩
abbrev S8x2x128x512 : Shape := ⟨4, ![8, 2, 128, 512]⟩
abbrev S2x8x128x512 : Shape := ⟨4, ![2, 8, 128, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x1024x512, .f32⟩
  | .hbm, ⟨6, _⟩ => ⟨S512x4096, .f32⟩
  | .hbm, ⟨7, _⟩ => ⟨S2x128x64x64, .f32⟩
  | .hbm, ⟨8, _⟩ => ⟨S2x128x64x64, .f32⟩
  | .hbm, ⟨9, _⟩ => ⟨S4096x512, .f32⟩
  | .hbm, ⟨10, _⟩ => ⟨S_, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x4096, .f32⟩
  | .hbm, ⟨26, _⟩ => ⟨S2x1024x64x64, .f32⟩
  | .hbm, ⟨27, _⟩ => ⟨S2x64x1024x128, .f32⟩
  | .hbm, ⟨28, _⟩ => ⟨S_, .f32⟩
  | .hbm, ⟨29, _⟩ => ⟨S2x64x1024x128, .f32⟩
  | .hbm, ⟨30, _⟩ => ⟨S2x64x1024x128, .f32⟩
  | .hbm, ⟨31, _⟩ => ⟨S_, .f32⟩
  | .hbm, ⟨32, _⟩ => ⟨S2x64x1024, .f32⟩
  | .hbm, ⟨33, _⟩ => ⟨S2x64x1024x1, .f32⟩
  | .hbm, ⟨34, _⟩ => ⟨S2x64x1024x128, .f32⟩
  | .hbm, ⟨35, _⟩ => ⟨S2x64x1024x128, .f32⟩
  | .hbm, ⟨36, _⟩ => ⟨S2x64x1024x128, .f32⟩
  | .hbm, ⟨37, _⟩ => ⟨S_, .f32⟩
  | .hbm, ⟨38, _⟩ => ⟨S2x64x1024, .f32⟩
  | .hbm, ⟨39, _⟩ => ⟨S2x64x1024x1, .f32⟩
  | .hbm, ⟨40, _⟩ => ⟨S2x64x64x1024, .f32⟩
  | .hbm, ⟨41, _⟩ => ⟨S2x1024x64x64, .f32⟩
  | .hbm, ⟨42, _⟩ => ⟨S2x1024x64x1, .f32⟩
  | .hbm, ⟨43, _⟩ => ⟨S2x1024x64x64, .f32⟩
  | .hbm, ⟨44, _⟩ => ⟨S2x1024x64x64, .f32⟩
  | .hbm, ⟨45, _⟩ => ⟨S2x8x128x8x512, .f32⟩
  | .hbm, ⟨46, _⟩ => ⟨S8x512x512, .f32⟩
  | .hbm, ⟨47, _⟩ => ⟨S8x512x2x8x128, .f32⟩
  | .hbm, ⟨48, _⟩ => ⟨S8x8x2x128x512, .f32⟩
  | .hbm, ⟨49, _⟩ => ⟨S8x8x2x128x512, .f32⟩
  | .hbm, ⟨50, _⟩ => ⟨S_, .f32⟩
  | .hbm, ⟨51, _⟩ => ⟨S8x8, .f32⟩
  | .hbm, ⟨52, _⟩ => ⟨S8x8x1x1x1, .f32⟩
  | .hbm, ⟨53, _⟩ => ⟨S_, .f32⟩
  | .hbm, ⟨54, _⟩ => ⟨S8x8x1x1x1, .f32⟩
  | .hbm, ⟨55, _⟩ => ⟨S8x8x1x1x1, .f32⟩
  | .hbm, ⟨56, _⟩ => ⟨S_, .f32⟩
  | .hbm, ⟨57, _⟩ => ⟨S8x8x1x1x1, .f32⟩
  | .hbm, ⟨58, _⟩ => ⟨S8x8x1x1x1, .f32⟩
  | .hbm, ⟨59, _⟩ => ⟨S8x8x2x128x512, .f32⟩
  | .hbm, ⟨60, _⟩ => ⟨S8x8x2x128x512, .f32⟩
  | .hbm, ⟨61, _⟩ => ⟨S8x8x2x128x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x8x2x128x512, .f32⟩
  | .hbm, ⟨66, _⟩ => ⟨S8x8x2x128x512, .f32⟩
  | .hbm, ⟨67, _⟩ => ⟨S_, .f32⟩
  | .hbm, ⟨68, _⟩ => ⟨S8x8x2x128x512, .f32⟩
  | .hbm, ⟨69, _⟩ => ⟨S8x8x2x128x512, .f32⟩
  | .hbm, ⟨70, _⟩ => ⟨S_, .f32⟩
  | .hbm, ⟨71, _⟩ => ⟨S8x8x1x1x1, .f32⟩
  | .hbm, ⟨72, _⟩ => ⟨S8x8x1x1x1, .f32⟩
  | .hbm, ⟨73, _⟩ => ⟨S8x8x2x128x512, .f32⟩
  | .hbm, ⟨74, _⟩ => ⟨S8x8x2x128x512, .f32⟩
  | .hbm, ⟨75, _⟩ => ⟨S8x8, .i32⟩
  | .hbm, ⟨76, _⟩ => ⟨S8x8, .i32⟩
  | .hbm, ⟨77, _⟩ => ⟨S_, .i32⟩
  | .hbm, ⟨78, _⟩ => ⟨S8x8, .i32⟩
  | .hbm, ⟨79, _⟩ => ⟨S8x8, .i32⟩
  | .hbm, ⟨80, _⟩ => ⟨S8x8, .i1⟩
  | .hbm, ⟨81, _⟩ => ⟨S8x8x1x1x1, .i1⟩
  | .hbm, ⟨82, _⟩ => ⟨S8x8x2x128x512, .i1⟩
  | .hbm, ⟨83, _⟩ => ⟨S8x8x2x128x512, .f32⟩
  | .hbm, ⟨84, _⟩ => ⟨S_, .f32⟩
  | .hbm, ⟨85, _⟩ => ⟨S8x2x128x512, .f32⟩
  | .hbm, ⟨86, _⟩ => ⟨S2x8x128x512, .f32⟩
  | .hbm, ⟨87, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call4_v0 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Proof.Cells.lean ====
/-
The vocabulary of the kernel's communication: the devices a step names, the semaphores and the slots of the
scratch buffers it names, what a slot holds as an assertion, and the facts about reading and writing a slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Transfers
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy and the kernel's own (duties named by numbers) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices a step names -/

/-- The device `1 + i` places after `c` on the ring of eight. -/
def fw (c : Dev nD) (i : ℕ) : Dev nD := ⟨(c.val + 1 + i) % 8, Nat.mod_lt _ (by decide)⟩
/-- The device `1 + i` places before `c`. -/
def bk (c : Dev nD) (i : ℕ) : Dev nD := ⟨(c.val + 7 * (1 + i)) % 8, Nat.mod_lt _ (by decide)⟩

theorem dev_lt (c : Dev nD) : c.val < 8 := c.isLt
theorem fw_bk (c : Dev nD) (i : ℕ) : fw (bk c i) i = c := by
  have := dev_lt c; apply Fin.ext; simp only [fw, bk]; omega
theorem bk_fw (c : Dev nD) (i : ℕ) : bk (fw c i) i = c := by
  have := dev_lt c; apply Fin.ext; simp only [fw, bk]; omega
/-- Going back `1 + i` places is going on `1 + (6 - i)`. -/
theorem bk_eq_fw (c : Dev nD) (i j : ℕ) (h : i + j = 6) : bk c i = fw c j := by
  have := dev_lt c; apply Fin.ext; simp only [fw, bk]; omega

/-- Moving on by `1 + i` places, as a permutation of the devices. -/
def ring (i : ℕ) : Dev nD ≃ Dev nD := ⟨fun c => fw c i, fun c => bk c i, fun c => bk_fw c i, fun c => fw_bk c i⟩

/-! ## The semaphores -/

/-- The kernel's DMA semaphores: seven of each kind `k` — 0/1 the gather's departures and arrivals, 2/3 the
    quantised partial sums', 4/5 their scales'. -/
def dsem (k i : ℕ) : DmaSem sig := ⟨(6 + 7 * k + i) % 48, Nat.mod_lt _ (by decide)⟩

theorem dsem_val {k i : ℕ} (hk : k < 6) (hi : i < 7) : (dsem k i).val = 6 + 7 * k + i := by
  simp only [dsem]; omega

/-- The barrier semaphore. -/
abbrev barS : Sem sig := (SemArray.scalar (sig.barrier 0 rfl) : Sems sig S_).sem

abbrev barCell (c : Dev nD) : GSem nD τ sig := ((c : Thread nD τ), .reg barS)
abbrev dcell (c : Dev nD) (k i : ℕ) : GSem nD τ sig := ((c : Thread nD τ), .dma (dsem k i))

/-! ## The buffers and their slots -/

/-- The scratch buffers: the device's own quantised rows; the gathered rows; the partial sums to send and received; their
    scales to send and received. -/
abbrev xiM : Memref sig .tc .vmem S2x128x512 .i8 := Memref.whole cc0_scratch0
abbrev agM : Memref sig .tc .vmem S7x2x128x512 .i8 := Memref.whole cc0_scratch1
abbrev rsM : Memref sig .tc .vmem S7x2x128x512 .i8 := Memref.whole cc0_scratch2
abbrev rrM : Memref sig .tc .vmem S7x2x128x512 .i8 := Memref.whole cc0_scratch3
abbrev ssM : Memref sig .tc .vmem S7x8x128 .f32 := Memref.whole cc0_scratch4
abbrev srM : Memref sig .tc .vmem S7x8x128 .f32 := Memref.whole cc0_scratch5

theorem inbX (i : ℕ) (hi : i < 7) : ∀ a : Fin 4, (![i, 0, 0, 0] : Fin 4 → ℕ) a + S1x2x128x512.size a ≤ S7x2x128x512.size a := by
  intro a; fin_cases a
  · show i + 1 ≤ 7; omega
  · show 0 + 2 ≤ 2; omega
  · show 0 + 128 ≤ 128; omega
  · show 0 + 512 ≤ 512; omega
theorem inbS (i : ℕ) (hi : i < 7) : ∀ a : Fin 3, (![i, 0, 0] : Fin 3 → ℕ) a + S1x8x128.size a ≤ S7x8x128.size a := by
  intro a; fin_cases a
  · show i + 1 ≤ 7; omega
  · show 0 + 8 ≤ 8; omega
  · show 0 + 128 ≤ 128; omega

/-- Slot `i` of a buffer of seven. -/
abbrev rX (i : ℕ) (hi : i < 7) : Rect S7x2x128x512 := Rect.unit (s := S7x2x128x512) ![i, 0, 0, 0] S1x2x128x512.size (inbX i hi)
abbrev rS (i : ℕ) (hi : i < 7) : Rect S7x8x128 := Rect.unit (s := S7x8x128) ![i, 0, 0] S1x8x128.size (inbS i hi)

/-- The same slot as a transfer names it, the unit axis dropped. -/
abbrev slotX (M : Memref sig .tc .vmem S7x2x128x512 .i8) (i : ℕ) (hi : i < 7) : Memref sig .tc .vmem S2x128x512 .i8 :=
  (M.slice (rX i hi) (fun _ => rfl)).squeeze S2x128x512 squeezes_S1x2x128x512_S2x128x512
abbrev slotS (M : Memref sig .tc .vmem S7x8x128 .f32) (i : ℕ) (hi : i < 7) : Memref sig .tc .vmem S8x128 .f32 :=
  (M.slice (rS i hi) (fun _ => rfl)).squeeze S8x128 squeezes_S1x8x128_S8x128

/-! ### What a slot holds -/

section Slot
variable {s : Shape} {e : EltTy} (M : Memref sig .tc .vmem s e) (c : Dev nD) (r : Rect s)

/-- The elements of the rectangle `r` of device `c`'s buffer, at contents `f`. -/
abbrev slotP (f : Buf (Elt F) (M.view.loc (c : Thread nD τ))) : sProp 𝕄 :=
  M.view.loc (c : Thread nD τ) ↦[(M.access r).set]{fullShare} f

/-- They hold something. -/
def anyR : sProp 𝕄 := iprop(∃ f, slotP (F := F) M c r f)
/-- A load there reads `V`. -/
def atR (V : r.shape.Idx → Elt F e) : sProp 𝕄 :=
  iprop(∃ f, ⌜M.view.readAt (Elt F) r.toLoadRect f = V⌝ ∗ slotP (F := F) M c r f)

instance anyR_storable : BI.Storable (upEmb : UEmb _ 𝕄) (anyR (F := F) M c r) := by unfold anyR slotP; infer_instance
instance atR_storable (V) : BI.Storable (upEmb : UEmb _ 𝕄) (atR (F := F) M c r V) := by unfold atR slotP; infer_instance

theorem atR_any (V) : atR (F := F) M c r V ⊢ anyR M c r := by
  unfold atR anyR
  iintro ⟨%f, %h, H⟩
  iexists f; iexact H

end Slot

abbrev anyX (M : Memref sig .tc .vmem S7x2x128x512 .i8) (c : Dev nD) (i : ℕ) (hi : i < 7) : sProp 𝕄 := anyR M c (rX i hi)
abbrev anyS (M : Memref sig .tc .vmem S7x8x128 .f32) (c : Dev nD) (i : ℕ) (hi : i < 7) : sProp 𝕄 := anyR M c (rS i hi)
abbrev atX (M : Memref sig .tc .vmem S7x2x128x512 .i8) (c : Dev nD) (i : ℕ) (hi : i < 7) (V : Vec F S1x2x128x512 .i8) : sProp 𝕄 := atR M c (rX i hi) V
abbrev atS (M : Memref sig .tc .vmem S7x8x128 .f32) (c : Dev nD) (i : ℕ) (hi : i < 7) (V : Vec F S1x8x128 .f32) : sProp 𝕄 := atR M c (rS i hi) V

/-- The device's quantised rows, held at a share. -/
abbrev xiP (c : Dev nD) (q : PosShare TreeShare) (V : Vec F S2x128x512 .i8) : sProp 𝕄 :=
  ((c : Thread nD τ).loc cc0_scratch0) ↦{q} (V : Buf (Elt F) ((c : Thread nD τ).loc cc0_scratch0))
instance xiP_storable (c : Dev nD) (q) (V : Vec F S2x128x512 .i8) : BI.Storable (upEmb : UEmb _ 𝕄) (xiP c q V) := by unfold xiP; infer_instance

/-! ### Reading what was written -/

theorem squeeze_numel : S2x128x512.numel = S1x2x128x512.numel := (squeezes_S1x2x128x512_S2x128x512).numel_eq

/-- A block of rows as a slot's contents: the unit axis put in front. -/
def up (V : Vec F S2x128x512 .i8) : Vec F S1x2x128x512 .i8 :=
  fun y => V ((Shape.reshapeEquiv squeeze_numel).symm y)

/-- A slot's set, as a transfer names it, is the load's. -/
theorem set_slot {s s' : Shape} {e : EltTy} (M : Memref sig .tc .vmem s e) (r : Rect s) (hr : ∀ a, r.stride a = 1)
    (hq : r.shape.Squeezes s') : ((M.slice r hr).squeeze s' hq).view.set = (M.access r).set :=
  View.set_reshape _ _

/-- A block landed in a slot from a whole buffer reads back as that block with the unit axis in front. -/
theorem readAt_land (M : Memref sig .tc .vmem S7x2x128x512 .i8) (i : ℕ) (hi : i < 7) (c : Dev nD)
    (fd : Buf (Elt F) (M.view.loc (c : Thread nD τ))) (w : Vec F S2x128x512 .i8) :
    M.view.readAt (Elt F) (rX i hi).toLoadRect ((slotX M i hi).view.write (Elt F) fd w Finset.univ) = up w := by
  funext y
  have h := View.read_write_reshape (M.access (rX i hi)) squeeze_numel fd w ((Shape.reshapeEquiv squeeze_numel).symm y)
  rw [Equiv.apply_symm_apply] at h
  exact h

/-- A slot landed in a slot reads back the same. -/
theorem readAt_land_slot {s s' : Shape} {e : EltTy} (M M' : Memref sig .tc .vmem s e) (r : Rect s) (hr : ∀ a, r.stride a = 1)
    (hq : r.shape.Squeezes s') (f : M.view.ty.Contents (Elt F)) (fd : M'.view.ty.Contents (Elt F)) :
    M'.view.readAt (Elt F) r.toLoadRect (((M'.slice r hr).squeeze s' hq).view.write (Elt F) fd
        (((M.slice r hr).squeeze s' hq).view.read (Elt F) f) Finset.univ) = M.view.readAt (Elt F) r.toLoadRect f := by
  funext y
  have h := View.read_write_reshape (M'.access r) hq.numel_eq fd (((M.slice r hr).squeeze s' hq).view.read (Elt F) f)
    ((Shape.reshapeEquiv hq.numel_eq).symm y)
  rw [Equiv.apply_symm_apply] at h
  refine h.trans ?_
  show M.view.read (Elt F) f (r.emb (Shape.reshapeEquiv hq.numel_eq ((Shape.reshapeEquiv hq.numel_eq).symm y))) = _
  rw [Equiv.apply_symm_apply]
  rfl

/-- What was stored in a rectangle is read back. -/
theorem readAt_store {s : Shape} {e : EltTy} (M : Memref sig .tc .vmem s e) (r : Rect s)
    (f : M.view.ty.Contents (Elt F)) (w : r.shape.Idx → Elt F e) :
    M.view.readAt (Elt F) r.toLoadRect ((M.access r).write (Elt F) f w Finset.univ) = w :=
  View.read_write_univ (v := M.access r) f w

theorem hz3 : (![0, 0, 0] : Fin 3 → Nat) = fun _ => 0 := funext fun a => by fin_cases a <;> rfl
theorem hz2 : (![0, 0] : Fin 2 → Nat) = fun _ => 0 := funext fun a => by fin_cases a <;> rfl

/-! ### Amounts -/

/-- The credit of a transfer of a block of rows; of a block of scales. -/
abbrev NX : ℕ := (slotX agM 0 (by decide)).view.dmaCredit
abbrev NS : ℕ := (slotS srM 0 (by decide)).view.dmaCredit
theorem NX_pos : 0 < NX := View.dmaCredit_pos _ (by decide)
theorem NS_pos : 0 < NS := View.dmaCredit_pos _ (by decide)

theorem credit_ag (i : ℕ) (hi : i < 7) : (slotX agM i hi).view.dmaCredit = NX := rfl
theorem credit_rr (i : ℕ) (hi : i < 7) : (slotX rrM i hi).view.dmaCredit = NX := rfl
theorem credit_rs (i : ℕ) (hi : i < 7) : (slotX rsM i hi).view.dmaCredit = NX := rfl
theorem credit_xi : xiM.view.dmaCredit = NX := rfl
theorem credit_sr (i : ℕ) (hi : i < 7) : (slotS srM i hi).view.dmaCredit = NS := rfl
theorem credit_ss (i : ℕ) (hi : i < 7) : (slotS ssM i hi).view.dmaCredit = NS := rfl

end Cert.KProof

end
-- ==== Proof.Schedule.lean ====
/-
The protocol of the kernel's communication: which semaphore cell is paid what by whom and what the payment hands over;
what each device owes and in which order it pays; the levels that make every wait safe.
-/
module

public import proofs.«01_k».proof.Proof.Cells

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-- The blocks the devices exchange: the quantised rows of device `c`; the quantised partial sum device `c` computes in
    step `s` and that block's scale, as stored in the slots. -/
structure Vals (F : FTy → Type) where
  x8 : Dev nD → Vec F S2x128x512 .i8
  rs : Dev nD → ℕ → Vec F S1x2x128x512 .i8
  sc : Dev nD → ℕ → Vec F S1x8x128 .f32

variable (T : Vals F)

/-! ## The schedule -/

/-- What the signal of device `c` hands the device it goes to (`1 + i` places after it): the slots of `c` that this
    device will write — `c`'s slot `6 - i` of the gather and its slots `i` of the two scatters. -/
def barPay (c : Dev nD) (i : ℕ) (hi : i < 7) : sProp 𝕄 :=
  iprop(anyX agM c (6 - i) (by omega) ∗ anyX rrM c i hi ∗ anyS srM c i hi)

/-- What the completion of a transfer of kind `k` on slot `i` hands device `c`. -/
def payK (c : Dev nD) (k i : ℕ) (hi : i < 7) : sProp 𝕄 :=
  match k with
  | 0 => xiP c (shareTokN fullShare i) (T.x8 c)
  | 1 => atX agM c i hi (up (T.x8 (bk c i)))
  | 2 => anyX rsM c i hi
  | 3 => atX rrM c i hi (T.rs (fw c i) i)
  | 4 => anyS ssM c i hi
  | _ => atS srM c i hi (T.sc (fw c i) i)

/-- The credit of a transfer of kind `k`. -/
def amtK (k : ℕ) : ℕ := if k < 4 then NX else NS

theorem amtK_pos (k : ℕ) : 0 < amtK k := by
  unfold amtK; split
  · exact NX_pos
  · exact NS_pos

instance barPay_storable (c : Dev nD) (i : ℕ) (hi : i < 7) : BI.Storable (upEmb : UEmb _ 𝕄) (barPay (F := F) c i hi) := by
  unfold barPay; infer_instance
instance payK_storable (c : Dev nD) (k i : ℕ) (hi : i < 7) : BI.Storable (upEmb : UEmb _ 𝕄) (payK T c k i hi) := by
  unfold payK; split <;> infer_instance

/-- One round. A barrier cell has seven duties of one unit each, the `i`-th paid by the device `1 + i` places before it; a
    transfer's cell one duty of the transfer's credit. -/
def rd : Rounds.Schedule (GSem nD τ sig) ℕ 𝕄 where
  duties g r := if r = 0 ∧ g.1.2 = .tc then (match g.2 with
    | .reg _ => Finset.range 7
    | .dma s => if 6 ≤ s.val then {0} else ∅) else ∅
  unitless _ := False
  amount g _ _ := match g.2 with
    | .reg _ => 1
    | .dma s => amtK ((s.val - 6) / 7)
  payload g _ d := match g.2 with
    | .reg _ => if h : d < 7 then barPay (bk g.1.1 d) d h else iprop(emp)
    | .dma s => payK T g.1.1 ((s.val - 6) / 7) ((s.val - 6) % 7) (Nat.mod_lt _ (by decide))
  amount_pos g _ _ _ := by
    rcases g with ⟨t, sm⟩
    cases sm with
    | reg _ => exact Nat.one_pos
    | dma s => exact amtK_pos _

instance rd_storable (g : GSem nD τ sig) (r : ℕ) (d : ℕ) : BI.Storable (upEmb : UEmb _ 𝕄) ((rd T).payload g r d) := by
  rcases g with ⟨t, sm⟩
  cases sm with
  | reg s => show BI.Storable upEmb (if h : d < 7 then barPay (bk t.1 d) d h else iprop(emp)); split <;> infer_instance
  | dma s => exact payK_storable T _ _ _ _

section Sched
variable (c : Dev nD) {k i : ℕ} (hk : k < 6) (hi : i < 7)

theorem duties_bar : (rd T).duties (barCell c) 0 = Finset.range 7 := by dsimp only [rd]; exact if_pos ⟨rfl, rfl⟩
include hk hi in
theorem duties_d : (rd T).duties (dcell c k i) 0 = {0} := by
  dsimp only [rd]; rw [if_pos ⟨rfl, rfl⟩, if_pos (by rw [dsem_val hk hi]; omega)]
theorem duties_later (g : GSem nD τ sig) : ∀ r, 1 ≤ r → (rd T).duties g r = ∅ :=
  fun r hr => by dsimp only [rd]; rw [if_neg fun h => by omega]

theorem amount_bar (d : ℕ) : (rd T).amount (barCell c) 0 d = 1 := rfl
include hk hi in
theorem kind_dsem : ((dsem k i).val - 6) / 7 = k := by rw [dsem_val hk hi]; omega
include hk hi in
theorem slot_dsem : ((dsem k i).val - 6) % 7 = i := by rw [dsem_val hk hi]; omega
include hk hi in
theorem amount_d (d : ℕ) : (rd T).amount (dcell c k i) 0 d = amtK k := by
  show amtK (((dsem k i).val - 6) / 7) = _; rw [kind_dsem hk hi]

theorem expect_bar : (rd T).expect (barCell c) 0 = 7 := by
  unfold Schedule.expect Schedule.amountOf
  rw [duties_bar, Finset.sum_congr rfl fun d _ => amount_bar T c d, Finset.sum_const, Finset.card_range, smul_eq_mul]
include hk hi in
theorem expect_d : (rd T).expect (dcell c k i) 0 = amtK k := by
  unfold Schedule.expect Schedule.amountOf; rw [duties_d T c hk hi, Finset.sum_singleton, amount_d T c hk hi]

include hi in
theorem payload_bar : (rd T).payload (barCell c) 0 i = barPay (bk c i) i hi := dif_pos hi
theorem payK_congr {k k' i i' : ℕ} (h : k = k') (h' : i = i') (hi : i < 7) (hi' : i' < 7) : payK T c k i hi = payK T c k' i' hi' := by
  subst h; subst h'; rfl
include hk in
theorem payload_d (d : ℕ) : (rd T).payload (dcell c k i) 0 d = payK T c k i hi :=
  payK_congr T c (kind_dsem hk hi) (slot_dsem hk hi) _ _

include hk in
/-- The rest of a transfer cell's round is its one payload. -/
theorem rest_d : bigSep ((rd T).duties (dcell c k i) 0 \ ∅) (fun d => (rd T).payload (dcell c k i) 0 d) = payK T c k i hi := by
  rw [Finset.sdiff_empty, duties_d T c hk hi, bigSep_singleton, payload_d T c hk hi]
/-- The rest of a barrier cell's round is the seven devices' payloads. -/
theorem rest_bar : bigSep ((rd T).duties (barCell c) 0 \ ∅) (fun d => (rd T).payload (barCell c) 0 d)
    = bigSep (Finset.range 7) (fun d => (rd T).payload (barCell c) 0 d) := by
  rw [Finset.sdiff_empty, duties_bar]

end Sched

/-! ## What a device owes; the levels -/

/-- A debt, by its kind (6: a barrier signal; 1, 3, 5: an arrival) and its number. -/
def dueCell (c : Dev nD) (x : ℕ × ℕ) : GSem nD τ sig :=
  if x.1 = 6 then barCell (fw c x.2) else if x.1 = 1 then dcell (fw c x.2) 1 x.2 else dcell (bk c x.2) x.1 x.2
def dueAmt (x : ℕ × ℕ) : ℕ := if x.1 = 6 then 1 else amtK x.1

/-- The debts in the order the program pays them. -/
def allDues : List (ℕ × ℕ) :=
  [(6, 0), (6, 1), (6, 2), (6, 3), (6, 4), (6, 5), (6, 6),
   (1, 0), (1, 1), (1, 2), (1, 3), (1, 4), (1, 5), (1, 6),
   (3, 0), (5, 0), (3, 1), (5, 1), (3, 2), (5, 2), (3, 3), (5, 3), (3, 4), (5, 4), (3, 5), (5, 5), (3, 6), (5, 6)]

/-- What device `c` owes while the debts `l` are outstanding. -/
def ow (c : Dev nD) : List (ℕ × ℕ) → CellTallies nD τ sig Unit
  | [] => 0
  | x :: l => ow c l + tallyAt (dueCell c x) () (dueAmt x)

/-- The debts left after the first `n` payments. -/
def dl (n : ℕ) : List (ℕ × ℕ) := allDues.drop n

/-- Device `c` owes what is left after `n` payments (whatever it has waited on). -/
def OW (c : Dev nD) (n : ℕ) : sProp 𝕄 := iprop(∃ W, owes (c : Thread nD τ) (ow c (dl n)) W)

def L (g : GSem nD τ sig) : Finset Unit := if g.1.2 = .tc then {()} else ∅
/-- The levels: barrier cells at 1, the gather's arrivals at 2, the scatters' at 3, everything else at 0. -/
def lvS (sm : SemLoc sig) : ℕ := match sm with
  | .reg _ => 1
  | .dma s => if 13 ≤ s.val ∧ s.val < 20 then 2 else if (27 ≤ s.val ∧ s.val < 34) ∨ 41 ≤ s.val then 3 else 0
def lv (g : GSem nD τ sig) (_ : Unit) : ℕ := lvS g.2
def dueLv (x : ℕ × ℕ) : ℕ := if x.1 = 6 then 1 else if x.1 = 1 then 2 else 3

theorem L_of_ne (g : GSem nD τ sig) (h : g.1.2 ≠ .tc) : L g = ∅ := if_neg h
theorem L_tc (c : Dev nD) (sm : SemLoc sig) : L ((c : Thread nD τ), sm) = {()} := if_pos rfl

/-- A debt of one of the four kinds, with a slot's number. -/
def IsDue (x : ℕ × ℕ) : Prop := (x.1 = 6 ∨ x.1 = 1 ∨ x.1 = 3 ∨ x.1 = 5) ∧ x.2 < 7
instance (x : ℕ × ℕ) : Decidable (IsDue x) := by unfold IsDue; infer_instance

theorem L_due (c : Dev nD) (x : ℕ × ℕ) : L (dueCell c x) = {()} := by
  unfold dueCell; split
  · rfl
  · split <;> rfl
theorem lv_due (c : Dev nD) (x : ℕ × ℕ) (h : IsDue x) : lvS (dueCell c x).2 = dueLv x := by
  obtain ⟨k, i⟩ := x
  obtain ⟨hk, hi⟩ := h
  dsimp only at hk hi
  unfold dueCell dueLv
  dsimp only
  rcases hk with rfl | rfl | rfl | rfl
  · rfl
  · show lvS (.dma (dsem 1 i)) = 2
    dsimp only [lvS]; rw [dsem_val (by decide) hi, if_pos (by omega)]
  · show lvS (.dma (dsem 3 i)) = 3
    dsimp only [lvS]; rw [dsem_val (by decide) hi, if_neg (by omega), if_pos (by omega)]
  · show lvS (.dma (dsem 5 i)) = 3
    dsimp only [lvS]; rw [dsem_val (by decide) hi, if_neg (by omega), if_pos (by omega)]

theorem ow_pos {c : Dev nD} {l : List (ℕ × ℕ)} {g : GSem nD τ sig} {u : Unit} (h : 0 < ow c l g u) : ∃ x ∈ l, g = dueCell c x := by
  induction l with
  | nil => exact absurd h (Nat.lt_irrefl 0)
  | cons x l ih =>
    by_cases hx : g = dueCell c x
    · exact ⟨x, List.mem_cons_self, hx⟩
    · unfold ow at h
      rw [Pi.add_apply, Finsupp.add_apply, tallyAt_apply, if_neg (fun h' => hx h'.1), Nat.add_zero] at h
      obtain ⟨y, hy, e⟩ := ih h
      exact ⟨y, List.mem_cons_of_mem _ hy, e⟩

/-- A device may wait on a semaphore below everything it still owes. -/
theorem mayWait (c : Dev nD) (sm : SemLoc sig) (l : List (ℕ × ℕ)) (n : ℕ) (hsm : lvS sm = n)
    (hl : ∀ x ∈ l, IsDue x ∧ n < dueLv x) : (levAts L lv : sProp 𝕄) ⊢ MayWait (c : Thread nD τ) sm () (ow c l) :=
  MayOwe.of_cut (L := L) (lev := lv) n (fun p hp => by rw [Finset.mem_singleton.mp hp, L_tc]; exact Finset.mem_singleton_self _)
    (fun g u hg => by
      obtain ⟨x, -, rfl⟩ := ow_pos hg
      rw [L_due]; exact Finset.mem_singleton_self _)
    (fun p hp => by rw [Finset.mem_singleton.mp hp]; exact le_of_eq hsm)
    (fun g u hg => by
      obtain ⟨x, hx, rfl⟩ := ow_pos hg
      show n < lvS (dueCell c x).2
      rw [lv_due c x (hl x hx).1]; exact (hl x hx).2)

theorem dl_due : ∀ n, n ≤ 28 → ∀ x ∈ dl n, IsDue x := fun n _ x hx => by
  have h : ∀ y ∈ allDues, IsDue y := by decide
  exact h x (List.mem_of_mem_drop hx)

/-! ## The cells' records -/

abbrev CK : Type := Fin 6 × Fin 7
/-- The kernel's cells: a barrier's, or a transfer's of a kind and a slot. -/
def kcell (ck : Dev nD × Option CK) : GSem nD τ sig := match ck.2 with
  | none => barCell ck.1
  | some ki => dcell ck.1 ki.1.val ki.2.val

/-- Every cell's invariant (at some name) and that it has reached its one round. -/
def records : sProp 𝕄 :=
  bigSep Finset.univ fun ck : Dev nD × Option CK => iprop((∃ κ : ℕ, cellInv ER (rd T) κ (kcell ck)) ∗ reached ER (kcell ck) 0)

instance records_persistent : BI.Persistent (records T) := by unfold records; infer_instance

theorem rec_bar (c : Dev nD) : records T ⊢ iprop((∃ κ : ℕ, cellInv ER (rd T) κ (barCell c)) ∗ reached ER (barCell c) 0) :=
  bigSep_elim (Finset.mem_univ ((c, none) : Dev nD × Option CK))
theorem rec_d (c : Dev nD) {k i : ℕ} (hk : k < 6) (hi : i < 7) :
    records T ⊢ iprop((∃ κ : ℕ, cellInv ER (rd T) κ (dcell c k i)) ∗ reached ER (dcell c k i) 0) :=
  bigSep_elim (Finset.mem_univ ((c, some (⟨k, hk⟩, ⟨i, hi⟩)) : Dev nD × Option CK))

end Cert.KProof

end
-- ==== Proof.Contents.lean ====
/-
What the exchanged buffers hold, as functions of the operands, and that every step of the kernel computes the same two
functions of the rows it gathered.
-/
module

public import proofs.«01_k».proof.Proof.Schedule
public import proofs.«01_k».proof.Proof.Gen.KernelIdeal.Skeleton

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-- The kernel's operands on each device: its rows of `x`, its heads' blocks of the keys and values, its blocks of the two weights. -/
structure Args (F : FTy → Type) where
  x : Dev nD → Vec F S2x128x512 .bf16
  k : Dev nD → Vec F S2x128x8x64 .bf16
  v : Dev nD → Vec F S2x128x8x64 .bf16
  wq : Dev nD → Vec F S512x512 .bf16
  wo : Dev nD → Vec F S512x512 .bf16

variable (A : Args F) (c : Dev nD)

/-- The operands as a step takes them. -/
abbrev kk : FVec F S16x128x64 .bf16 := k0_pay2 (A.k c)
abbrev vv : FVec F S16x128x64 .bf16 := k0_pay3 (A.v c)
abbrev wwq : FVec F S512x512 .bf16 := k0_pay4 (A.wq c)
abbrev wwo : FVec F S512x512 .bf16 := k0_pay5 (A.wo c)
/-- The quantiser's step. -/
abbrev qs : FVec F S1x1x1 .bf16 := k0_pay6

/-- The device's own rows, quantised. -/
abbrev x8Of : Vec F S2x128x512 .i8 := k0_pay1 (A.x c)
/-- The device's partial output for its own rows. -/
abbrev ownOf : FVec F S256x512 .f32 := k0_pay7 (kk A c) (vv A c) (wwq A c) (wwo A c) qs (x8Of A c)
/-- The device's partial output for the rows `q`, quantised, and its scale. -/
def rsOf (q : Vec F S1x2x128x512 .i8) : Vec F S1x2x128x512 .i8 :=
  k0_pay13 (k0_pay11 (kk A c) (vv A c) (wwq A c) (wwo A c) (k0_pay8 qs q)) k0_pay12
def scOf (q : Vec F S1x2x128x512 .i8) : Vec F S1x8x128 .f32 :=
  k0_pay14 (k0_pay10 (kk A c) (vv A c) (wwq A c) (wwo A c) (k0_pay8 qs q))

/-- The contents of the exchanged buffers. -/
def valsOf : Vals F where
  x8 c := x8Of A c
  rs c i := rsOf A c (up (x8Of A (bk c i)))
  sc c i := scOf A c (up (x8Of A (bk c i)))

/-- The device's result: its own partial output and the seven received, summed in order of distance. -/
def outOf (rs : ℕ → Vec F S1x2x128x512 .i8) (sc : ℕ → Vec F S1x8x128 .f32) (own : FVec F S256x512 .f32) : Vec F S2x128x512 .f32 :=
  k0_pay57 (k0_pay55 (k0_pay54 (k0_pay53 (k0_pay52 (k0_pay51 (k0_pay50 own (sc 0) (rs 0)) (sc 1) (rs 1)) (sc 2) (rs 2)) (sc 3) (rs 3)) (sc 4) (rs 4))
    (sc 5) (rs 5)) (k0_pay56 (sc 6)) (rs 6)

def resultOf : Vec F S2x128x512 .f32 :=
  outOf (fun i => (valsOf A).rs (fw c i) i) (fun i => (valsOf A).sc (fw c i) i) (ownOf A c)

/-! ## Each step computes the same functions of the rows it gathered -/

variable (k v : FVec F S16x128x64 .bf16) (wq wo : FVec F S512x512 .bf16) (q : Vec F S1x2x128x512 .i8)

theorem rs_1 : k0_pay18 (kk A c) (vv A c) (wwo A c) (k0_pay15 (wwq A c) qs q) = rsOf A c q := rfl
theorem sc_1 : k0_pay19 (k0_pay17 (kk A c) (vv A c) (wwo A c) (k0_pay15 (wwq A c) qs q)) = scOf A c q := rfl
theorem rs_2 : k0_pay25 (wwo A c) (k0_pay21 (kk A c) (wwq A c) qs q) (k0_pay22 (kk A c) (vv A c) (wwq A c) qs q) = rsOf A c q := rfl
theorem sc_2 : k0_pay27 (k0_pay26 (wwo A c) (k0_pay21 (kk A c) (wwq A c) qs q) (k0_pay22 (kk A c) (vv A c) (wwq A c) qs q)) = scOf A c q := rfl
/-- The zero block a step's product is added to. -/
abbrev zz : FVec F S256x512 .f32 := constant S256x512 .f32 0x00000000#32
theorem rs_3 : k0_pay31 (wwo A c) (k0_pay28 (kk A c) (vv A c) (wwq A c) qs q) zz = rsOf A c q := rfl
theorem sc_3 : k0_pay32 (wwo A c) (k0_pay28 (kk A c) (vv A c) (wwq A c) qs q) zz = scOf A c q := rfl
theorem rs_4 : k0_pay36 (k0_pay33 (kk A c) (vv A c) (wwq A c) (wwo A c) qs q) (k0_pay34 (kk A c) (vv A c) (wwq A c) (wwo A c) qs q) = rsOf A c q := rfl
theorem sc_4 : k0_pay37 (k0_pay34 (kk A c) (vv A c) (wwq A c) (wwo A c) qs q) = scOf A c q := rfl
theorem rs_5 : k0_pay41 (k0_pay38 (kk A c) (vv A c) (wwq A c) (wwo A c) qs q) (k0_pay40 (kk A c) (vv A c) (wwq A c) (wwo A c) qs q) = rsOf A c q := rfl
theorem sc_5 : k0_pay42 (k0_pay39 (kk A c) (vv A c) (wwq A c) (wwo A c) qs q) = scOf A c q := rfl
theorem rs_6 : k0_pay48 (k0_pay46 (kk A c) (vv A c) (wwq A c) (wwo A c) (k0_pay43 qs q)) k0_pay47 = rsOf A c q := rfl
theorem sc_6 : k0_pay49 (k0_pay45 (kk A c) (vv A c) (wwq A c) (wwo A c) (k0_pay43 qs q)) = scOf A c q := rfl

end Cert.KProof

end
-- ==== Proof.Soft.lean ====
/-
Arithmetic on the extended reals: a weighted mean by exponentials does not change when every score is lowered by one real,
and the step may stand on the query or on the score.
-/
module

public import Idealize.ShloMosaic.PureOps.Ideal
public import Idealize.ShloMosaic.PureOps.Ideal.Laws

@[expose] public section

noncomputable section

namespace Cert.KProof

open Idealize.ShloMosaic

/-! ## Sums of extended reals -/

/-- A factor that is a nonnegative real goes through a finite sum of extended reals. -/
theorem sum_mul_nonneg {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A finite sum of reals, taken in the extended reals. -/
theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## A greatest element -/

/-- A fold of `max` from `-∞` lies under a bound exactly when every element does. -/
theorem fold_max_le {ι : Type} [Fintype ι] (f : ι → EReal) (z : EReal) :
    Finset.univ.fold max ⊥ f ≤ z ↔ ∀ i, f i ≤ z := by
  rw [Finset.fold_max_le]
  simp

/-- Over a nonempty index, the greatest of finitely many reals is a real. -/
theorem fold_max_real {n : ℕ} (s : Fin (n + 1) → ℝ) :
    ∃ m : ℝ, Finset.univ.fold max ⊥ (fun j => ((s j : ℝ) : EReal)) = m := by
  obtain ⟨m, hm⟩ := Finset.exists_max_image (Finset.univ : Finset (Fin (n + 1))) s ⟨0, Finset.mem_univ _⟩
  refine ⟨s m, le_antisymm ((fold_max_le _ _).2 fun i => EReal.coe_le_coe_iff.2 (hm.2 i (Finset.mem_univ _))) ?_⟩
  exact (fold_max_le (fun j => ((s j : ℝ) : EReal)) _).1 le_rfl m

/-! ## Softmax -/

/-- Weighting by exponentials of the scores is the same with every score lowered by one real: the common factor cancels
    between the weighted sum and the sum of the weights, whatever extended reals are weighted. -/
theorem soft_shift {n : ℕ} (s : Fin (n + 1) → ℝ) (v : Fin (n + 1) → EReal) (m : ℝ) :
    (∑ j, Ideal.exp ((s j : ℝ) : EReal) * v j) * Ideal.div 1 (∑ j, Ideal.exp ((s j : ℝ) : EReal))
      = Ideal.div (∑ j, v j * Ideal.exp (((s j : ℝ) : EReal) - (m : EReal)))
          (0 + ∑ j, Ideal.exp (((s j : ℝ) : EReal) - (m : EReal))) := by
  have hexp : ∀ j, Ideal.exp (((s j : ℝ) : EReal) - (m : EReal)) = ((Real.exp (s j) : ℝ) : EReal) * ((Real.exp (-m) : ℝ) : EReal) := fun j => by
    rw [← EReal.coe_sub, Ideal.exp_coe, ← EReal.coe_mul, ← Real.exp_add, sub_eq_add_neg]
  have hk : (0 : ℝ) < Real.exp (-m) := Real.exp_pos _
  have hL : (0 : ℝ) < ∑ j, Real.exp (s j) := Finset.sum_pos (fun j _ => Real.exp_pos _) ⟨0, Finset.mem_univ _⟩
  have h1 : ∑ j, v j * Ideal.exp (((s j : ℝ) : EReal) - (m : EReal))
      = (∑ j, Ideal.exp ((s j : ℝ) : EReal) * v j) * ((Real.exp (-m) : ℝ) : EReal) := by
    rw [sum_mul_nonneg _ _ hk.le]
    refine Finset.sum_congr rfl fun j _ => ?_
    rw [hexp, Ideal.exp_coe, ← mul_assoc, mul_comm (v j)]
  have h2 : ∑ j, Ideal.exp (((s j : ℝ) : EReal) - (m : EReal)) = (((∑ j, Real.exp (s j)) * Real.exp (-m) : ℝ) : EReal) := by
    rw [Finset.sum_mul, ← coe_sum']
    exact Finset.sum_congr rfl fun j _ => by rw [hexp, EReal.coe_mul]
  have h3 : ∑ j, Ideal.exp ((s j : ℝ) : EReal) = ((∑ j, Real.exp (s j) : ℝ) : EReal) := by
    rw [← coe_sum']; exact Finset.sum_congr rfl fun j _ => rfl
  rw [h1, h2, h3, zero_add, Ideal.div_coe (mul_pos hL hk).ne', Ideal.div_coe hL.ne', one_mul, mul_assoc, ← EReal.coe_mul]
  congr 3
  field_simp

/-- The reference's weighted mean of `v`: each score lowered by the greatest before the exponential. -/
def meanShifted {n : ℕ} (s v : Fin (n + 1) → EReal) : EReal :=
  Ideal.div (∑ j, v j * Ideal.exp (s j - Finset.univ.fold max ⊥ s)) (0 + ∑ j, Ideal.exp (s j - Finset.univ.fold max ⊥ s))

/-- The kernel's weighted mean of `v`: the exponentials of the scores themselves. -/
def meanPlain {n : ℕ} (s v : Fin (n + 1) → EReal) : EReal :=
  (∑ j, Ideal.exp (s j) * v j) * Ideal.div 1 (∑ j, Ideal.exp (s j))

/-- Where every score is a real the two means agree. -/
theorem meanPlain_eq {n : ℕ} (s v : Fin (n + 1) → EReal) (hs : ∀ j, ∃ r : ℝ, s j = r) : meanPlain s v = meanShifted s v := by
  obtain ⟨r, rfl⟩ : ∃ r : Fin (n + 1) → ℝ, s = fun j => ((r j : ℝ) : EReal) :=
    ⟨fun j => (hs j).choose, funext fun j => (hs j).choose_spec⟩
  obtain ⟨m, hm⟩ := fold_max_real r
  unfold meanPlain meanShifted
  rw [hm]
  exact soft_shift r v m

/-! ## Scores -/

/-- A score as the reference takes it, the step at the end. -/
def scoreRef (x : Fin 512 → EReal) (w : Fin 512 → Fin 64 → EReal) (k : Fin 64 → EReal) (e : EReal) : EReal :=
  (∑ t, (∑ a, x a * w a t) * k t) * e

/-- A score as the kernel takes it, the step on the query. -/
def scoreKer (x : Fin 512 → EReal) (w : Fin 512 → Fin 64 → EReal) (k : Fin 64 → EReal) (e : EReal) : EReal :=
  ∑ t, ((∑ a, x a * w a t) * e) * k t

/-- On reals both scores are one real. -/
theorem score_real (x : Fin 512 → EReal) (w : Fin 512 → Fin 64 → EReal) (k : Fin 64 → EReal) (e : EReal)
    (hx : ∀ a, ∃ r : ℝ, x a = r) (hw : ∀ a t, ∃ r : ℝ, w a t = r) (hk : ∀ t, ∃ r : ℝ, k t = r) (he : ∃ r : ℝ, e = r) :
    ∃ r : ℝ, scoreKer x w k e = r ∧ scoreRef x w k e = r := by
  obtain ⟨xr, rfl⟩ : ∃ r : Fin 512 → ℝ, x = fun a => ((r a : ℝ) : EReal) := ⟨fun a => (hx a).choose, funext fun a => (hx a).choose_spec⟩
  obtain ⟨wr, rfl⟩ : ∃ r : Fin 512 → Fin 64 → ℝ, w = fun a t => ((r a t : ℝ) : EReal) :=
    ⟨fun a t => (hw a t).choose, funext fun a => funext fun t => (hw a t).choose_spec⟩
  obtain ⟨kr, rfl⟩ : ∃ r : Fin 64 → ℝ, k = fun t => ((r t : ℝ) : EReal) := ⟨fun a => (hk a).choose, funext fun a => (hk a).choose_spec⟩
  obtain ⟨er, rfl⟩ := he
  refine ⟨(∑ t, (∑ a, xr a * wr a t) * kr t) * er, ?_, ?_⟩
  · unfold scoreKer
    simp only [← EReal.coe_mul, coe_sum']
    congr 1
    rw [Finset.sum_mul]
    exact Finset.sum_congr rfl fun t _ => by ring
  · unfold scoreRef
    simp only [← EReal.coe_mul, coe_sum']

end Cert.KProof

end
-- ==== Proof.Quant.lean ====
/-
The quantiser on the extended reals: what is clipped to eight signed bits is an integer and is read back unchanged, and the
two programs' constants are the same reals.
-/
module

public import Idealize.ShloMosaic.PureOps.Ideal
public import Idealize.ShloMosaic.PureOps.Ideal.Laws

@[expose] public section

noncomputable section

namespace Cert.KProof

open Idealize.ShloMosaic

/-- Rounded to the nearest integer and clipped to eight signed bits. -/
def clip (y : EReal) : EReal :=
  min ((127 : ℝ) : EReal) (max ((-127 : ℝ) : EReal) (Ideal.liftRound Ideal.roundHalfEven y))

/-- What is clipped is an integer between the bounds. -/
theorem clip_int (y : EReal) : ∃ n : ℤ, -127 ≤ n ∧ n ≤ 127 ∧ clip y = ((n : ℝ) : EReal) := by
  unfold clip
  induction y using EReal.rec with
  | bot =>
    refine ⟨-127, by norm_num, by norm_num, ?_⟩
    rw [Ideal.liftRound_bot, max_bot_right, min_eq_right (EReal.coe_le_coe_iff.2 (by norm_num))]
    norm_num
  | top =>
    refine ⟨127, by norm_num, by norm_num, ?_⟩
    rw [Ideal.liftRound_top, max_top_right, min_top_right]
    norm_num
  | coe r =>
    refine ⟨min 127 (max (-127) (Ideal.roundHalfEven r)), le_min (by norm_num) (le_max_left _ _), min_le_left _ _, ?_⟩
    rw [Ideal.liftRound_coe]
    push_cast
    simp only [EReal.coe_strictMono.monotone.map_min, EReal.coe_strictMono.monotone.map_max, EReal.coe_neg]

theorem clip_real (y : EReal) : ∃ r : ℝ, clip y = r := by
  obtain ⟨n, -, -, h⟩ := clip_int y
  exact ⟨n, h⟩

/-- An integer between the bounds survives the passage through eight signed bits. -/
theorem word_int (n : ℤ) (h1 : -127 ≤ n) (h2 : n ≤ 127) : (Ideal.fptosi 8 (((n : ℝ) : ℝ) : EReal)).toInt = n := by
  unfold Ideal.fptosi
  rw [Ideal.toIntClamped_coe, Int.floor_intCast, Int.ceil_intCast, ite_self]
  rw [min_eq_right (by norm_num; omega), max_eq_right (by norm_num; omega), BitVec.toInt_ofInt]
  rw [Int.bmod_eq_of_le (by norm_num; omega) (by norm_num; omega)]

/-- What is clipped and passed through eight signed bits is read back unchanged. -/
theorem word_clip (y : EReal) : (((Ideal.fptosi 8 (clip y)).toInt : ℝ) : EReal) = clip y := by
  obtain ⟨n, h1, h2, h⟩ := clip_int y
  rw [h, word_int n h1 h2]

/-! ## The constants -/

theorem word_neg : (((4294967169#32 : BitVec 32).toInt : ℝ) : EReal) = ((-127 : ℝ) : EReal) := by
  rw [show (4294967169#32 : BitVec 32).toInt = -127 by decide]
  norm_num

theorem word_pos : (((127#32 : BitVec 32).toInt : ℝ) : EReal) = ((127 : ℝ) : EReal) := by
  rw [show (127#32 : BitVec 32).toInt = 127 by decide]
  norm_num

theorem bits_pos : Ideal.ofBits .f32 0x42FE0000#32 = ((127 : ℝ) : EReal) := by
  simp [Ideal.ofBits, Ideal.ieee, -EReal.coe_mul]; norm_num

theorem bits_neg : Ideal.ofBits .f32 0xC2FE0000#32 = ((-127 : ℝ) : EReal) := by
  simp [Ideal.ofBits, Ideal.ieee, -EReal.coe_mul, -EReal.coe_neg]; norm_num

/-- The quantiser's factor is one real in both formats. -/
theorem bits_gain : Ideal.ofBits .bf16 0x41E2#16 = Ideal.ofBits .f32 0x41E20000#32 := by
  simp [Ideal.ofBits, Ideal.ieee, -EReal.coe_mul]; norm_num

/-- The quantiser's step is one real in both formats. -/
theorem bits_step : Ideal.ofBits .bf16 0x3D11#16 = Ideal.ofBits .f32 0x3D110000#32 := by
  simp [Ideal.ofBits, Ideal.ieee, -EReal.coe_mul]; norm_num

theorem step_real : ∃ r : ℝ, Ideal.ofBits .f32 0x3D110000#32 = r := by
  simp [Ideal.ofBits, Ideal.ieee, -EReal.coe_mul]

/-- The scores' factor is a real. -/
theorem eighth_real : ∃ r : ℝ, Ideal.ofBits .f32 0x3E000000#32 = r := by
  simp [Ideal.ofBits, Ideal.ieee, -EReal.coe_mul]

theorem bits_low : Ideal.ofBits .f32 0xFF800000#32 = ⊥ := by
  simp [Ideal.ofBits, Ideal.ieee]

theorem bits_low' : Ideal.ofBits .bf16 0xFF80#16 = ⊥ := by
  simp [Ideal.ofBits, Ideal.ieee]

end Cert.KProof

end
-- ==== Proof.KerRead.lean ====
/-
The attention of one step in the kernel, read at an index.
-/
module

public import proofs.«01_k».proof.Proof.Contents
public import proofs.«01_k».proof.Proof.Soft
public import proofs.«01_k».proof.Proof.Quant
public import Idealize.ShloMosaic.Lib.Pointwise

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The attention of a step, in three pieces -/

section Pieces

/-- The queries of the rows `x`, one block for each pair of batch and head. -/
def queries (wq : FVec F S512x512 .bf16) (x : FVec F S2x128x512 .bf16) : FVec F S16x128x64 .bf16 :=
  shapeCast S16x128x64 (transpose S2x8x128x64 [0, 2, 1, 3] (shapeCast S2x128x8x64
    (truncf .bf16 (mulf (matmul dot_S256x512_S512x512_S256x512_1_0_0_1_n_n none
      (shapeCast S256x512 x shapeCasts_S2x128x512_S256x512) wq (constant S256x512 .f32 0x00000000#32))
      (broadcast S256x512 (Scalar.ofBits .f32 0x3E000000#32))) bitsLt_bf16_f32)
    shapeCasts_S256x512_S2x128x8x64) transposes_S2x128x8x64_p0_2_1_3_S2x8x128x64) shapeCasts_S2x8x128x64_S16x128x64

/-- The weights of the values. -/
def weights (k q : FVec F S16x128x64 .bf16) : FVec F S16x128x128 .bf16 :=
  truncf .bf16 (exp (matmul dot_S16x128x64_S16x128x64_S16x128x128_2_2_1_1_0_0 none q k (constant S16x128x128 .f32 0x00000000#32))) bitsLt_bf16_f32

/-- The weighted means of the values. -/
def means (v : FVec F S16x128x64 .bf16) (p : FVec F S16x128x128 .bf16) : FVec F S16x128x64 .bf16 :=
  truncf .bf16 (mulf (matmul dot_S16x128x128_S16x128x64_S16x128x64_2_1_1_2_0_0 none p v (constant S16x128x64 .f32 0x00000000#32))
    (broadcastTo S16x128x64 (divf (broadcast S16x128x1 (Scalar.ofBits .f32 0x3F800000#32))
      (shapeCast S16x128x1 (multiReduction .add [2] S16x128 (extf .f32 p bitsLt_bf16_f32) 0x00000000#32 reduces_S16x128x128_S16x128 (.inl rfl) rfl)
        shapeCasts_S16x128_S16x128x1)) broadcasts_S16x128x1_S16x128x64)) bitsLt_bf16_f32

/-- The means' product with the output weight. -/
def project (wo : FVec F S512x512 .bf16) (o : FVec F S16x128x64 .bf16) : FVec F S256x512 .f32 :=
  matmul dot_S256x512_S512x512_S256x512_1_0_0_1_n_n none
    (shapeCast S256x512 (transpose S2x128x8x64 [0, 2, 1, 3] (shapeCast S2x8x128x64 o shapeCasts_S16x128x64_S2x8x128x64)
      transposes_S2x8x128x64_p0_2_1_3_S2x128x8x64) shapeCasts_S2x128x8x64_S256x512) wo (constant S256x512 .f32 0x00000000#32)

/-- The partial output of the rows `x`. -/
def partOf (k v : FVec F S16x128x64 .bf16) (wq wo : FVec F S512x512 .bf16) (x : FVec F S2x128x512 .bf16) : FVec F S256x512 .f32 :=
  project wo (means v (weights k (queries wq x)))

theorem pay9_eq (k v : FVec F S16x128x64 .bf16) (wq wo : FVec F S512x512 .bf16) (x : FVec F S2x128x512 .bf16) :
    k0_pay9 k v wq wo x = truncf .bf16 (partOf k v wq wo x) bitsLt_bf16_f32 := rfl

theorem pay7_eq (k v : FVec F S16x128x64 .bf16) (wq wo : FVec F S512x512 .bf16) (s : FVec F S1x1x1 .bf16) (q : Vec F S2x128x512 .i8) :
    k0_pay7 k v wq wo s q = partOf k v wq wo (mulf (sitofp .bf16 q) (broadcastTo S2x128x512 s broadcasts_S1x1x1_S2x128x512)) := rfl

end Pieces

/-! ## Each piece at an index -/

/-- Row `i` of batch `b` in a block of 256 rows. -/
abbrev row (b : Fin 2) (i : Fin 128) : Fin 256 := ⟨b * 128 + i, by omega⟩
/-- Head `h` of batch `b` among sixteen. -/
abbrev bh (b : Fin 2) (h : Fin 8) : Fin 16 := ⟨b * 8 + h, by omega⟩
/-- Column `t` of head `h` among 512. -/
abbrev col (h : Fin 8) (t : Fin 64) : Fin 512 := ⟨h * 64 + t, by omega⟩

theorem queries_apply (wq : FVec Ideal S512x512 .bf16) (x : FVec Ideal S2x128x512 .bf16) (b : Fin 2) (h : Fin 8) (i : Fin 128) (t : Fin 64) :
    queries wq x (ix3 (bh b h) i t) = (∑ a : Fin 512, x (ix3 b i a) * wq (ix2 a (col h t))) * Ideal.ofBits .f32 0x3E000000#32 := by
  pointwise [queries]
  simp only [show ((b : ℕ) * 8 + (h : ℕ)) % 8 = h by omega]

theorem weights_apply (k q : FVec Ideal S16x128x64 .bf16) (g : Fin 16) (i j : Fin 128) :
    weights k q (ix3 g i j) = Ideal.exp (∑ t : Fin 64, q (ix3 g i t) * k (ix3 g j t)) := by
  pointwise [weights]

theorem means_apply (v : FVec Ideal S16x128x64 .bf16) (p : FVec Ideal S16x128x128 .bf16) (g : Fin 16) (i : Fin 128) (t : Fin 64) :
    means v p (ix3 g i t) = (∑ j : Fin 128, p (ix3 g i j) * v (ix3 g j t)) * Ideal.div 1 (∑ j : Fin 128, p (ix3 g i j)) := by
  pointwise [means]

theorem project_apply (wo : FVec Ideal S512x512 .bf16) (o : FVec Ideal S16x128x64 .bf16) (b : Fin 2) (i : Fin 128) (d : Fin 512) :
    project wo o (ix2 (row b i) d) = ∑ n : Fin 512, o (ix3 (bh b ⟨n / 64, by omega⟩) i ⟨n % 64, by omega⟩) * wo (ix2 n d) := by
  pointwise [project]
  simp only [show ((b : ℕ) * 128 + (i : ℕ)) / 128 = b by omega, show ((b : ℕ) * 128 + (i : ℕ)) % 128 = i by omega]

theorem keys_apply (k : Vec Ideal S2x128x8x64 .bf16) (b : Fin 2) (h : Fin 8) (j : Fin 128) (t : Fin 64) :
    k0_pay2 k (ix3 (bh b h) j t) = k (ix4 b j h t) := by
  pointwise [k0_pay2]
  simp only [show ((b : ℕ) * 8 + (h : ℕ)) / 8 = b by omega, show ((b : ℕ) * 8 + (h : ℕ)) % 8 = h by omega, Fin.eta]

theorem values_apply (k : Vec Ideal S2x128x8x64 .bf16) (b : Fin 2) (h : Fin 8) (j : Fin 128) (t : Fin 64) :
    k0_pay3 k (ix3 (bh b h) j t) = k (ix4 b j h t) := by
  pointwise [k0_pay3]
  simp only [show ((b : ℕ) * 8 + (h : ℕ)) / 8 = b by omega, show ((b : ℕ) * 8 + (h : ℕ)) % 8 = h by omega, Fin.eta]

/-! ## The partial output at an index -/

/-- The partial output of a row: over every column of the output weight, the weighted mean of the values there. -/
theorem partOf_apply (k v : Vec Ideal S2x128x8x64 .bf16) (wq wo : FVec Ideal S512x512 .bf16) (x : FVec Ideal S2x128x512 .bf16)
    (b : Fin 2) (i : Fin 128) (d : Fin 512) :
    partOf (k0_pay2 k) (k0_pay3 v) wq wo x (ix2 (row b i) d)
      = ∑ n : Fin 512, meanPlain
          (fun j : Fin 128 => scoreKer (fun a => x (ix3 b i a)) (fun a t => wq (ix2 a (col ⟨n / 64, by omega⟩ t)))
            (fun t => k (ix4 b j ⟨n / 64, by omega⟩ t)) (Ideal.ofBits .f32 0x3E000000#32))
          (fun j => v (ix4 b j ⟨n / 64, by omega⟩ ⟨n % 64, by omega⟩)) * wo (ix2 n d) := by
  unfold partOf
  rw [project_apply]
  refine Finset.sum_congr rfl fun n _ => ?_
  rw [means_apply]
  simp only [weights_apply, queries_apply, keys_apply, values_apply, meanPlain, scoreKer]

end Cert.KProof

end
-- ==== Proof.KerScale.lean ====
/-
The quantised partial outputs and their sum in the kernel, read at an index.
-/
module

public import proofs.«01_k».proof.Proof.KerRead

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The quantised partial output, as a function of the partial output -/

section Vectors

/-- The greatest absolute value of a block, kept from zero, as the kernel takes it. -/
def peakVec (y : FVec F S256x512 .bf16) : FVec F S1x1 .f32 :=
  shapeCast S1x1 (maximumf (broadcast S1 (extractAt ![0, 0] (shapeCast S1x1 (multiReduction .maximumf [1] S1
      (shapeCast S1x512 (extf .f32 (multiReduction .maximumf [0] S512 (absf y) 0xFF80#16 reduces_S256x512_S512 (.inr rfl) rfl) bitsLt_bf16_f32)
        shapeCasts_S512_S1x512) 0xFF800000#32 reduces_S1x512_S1 (.inl rfl) rfl) shapeCasts_S1_S1x1) inpos_S1x1_p0_0))
    (broadcast S1 (Scalar.ofBits .f32 0x1E3CE508#32))) shapeCasts_S1_S1x1

/-- A block quantised with the peak `m`, as the kernel does. -/
def quantVec (y : FVec F S256x512 .bf16) (m : FVec F S1x1 .f32) : IVec S1x2x128x512 8 :=
  k0_pay13 (maximumf (broadcast S256x512 (Scalar.sitofp .bf16 4294967169#32)) (roundeven (mulf y
    (broadcastTo S256x512 (truncf .bf16 (divf (broadcast S1x1 (Scalar.ofBits .f32 0x42FE0000#32)) m) bitsLt_bf16_f32) broadcasts_S1x1_S256x512)))) k0_pay12

theorem pay10_eq (k v : FVec F S16x128x64 .bf16) (wq wo : FVec F S512x512 .bf16) (x : FVec F S2x128x512 .bf16) :
    k0_pay10 k v wq wo x = peakVec (k0_pay9 k v wq wo x) := rfl

theorem pay13_eq (k v : FVec F S16x128x64 .bf16) (wq wo : FVec F S512x512 .bf16) (x : FVec F S2x128x512 .bf16) :
    k0_pay13 (k0_pay11 k v wq wo x) k0_pay12 = quantVec (k0_pay9 k v wq wo x) (k0_pay10 k v wq wo x) := rfl

end Vectors

/-- The greatest absolute value of a block, kept from zero. -/
def peak (y : Fin 256 → Fin 512 → EReal) : EReal :=
  max (Finset.univ.fold max ⊥ fun l : Fin 512 => Finset.univ.fold max ⊥ fun r : Fin 256 => max (y r l) (-(y r l)))
    (Ideal.ofBits .f32 0x1E3CE508#32)

theorem peakVec_apply (y : FVec Ideal S256x512 .bf16) : peakVec y (ix2 0 0) = peak fun r l => y (ix2 r l) := by
  unfold peak
  pointwise [peakVec]
  rw [bits_low, bits_low']
  rfl

theorem quantVec_apply (y : FVec Ideal S256x512 .bf16) (m : FVec Ideal S1x1 .f32) (u : Fin 1) (b : Fin 2) (i : Fin 128) (d : Fin 512) :
    quantVec y m (ix4 u b i d)
      = Ideal.fptosi 8 (clip (y (ix2 (row b i) d) * Ideal.div ((127 : ℝ) : EReal) (m (ix2 0 0)))) := by
  pointwise [k0_pay13, quantVec, k0_pay12]
  rw [word_pos, word_neg, bits_pos]
  rfl

theorem pay14_apply (m : FVec Ideal S1x1 .f32) (u : Fin 1) (a : Fin 8) (l : Fin 128) :
    k0_pay14 m (ix3 u a l) = Ideal.div (m (ix2 0 0)) ((127 : ℝ) : EReal) := by
  pointwise [k0_pay14]
  rw [bits_pos]

/-! ## The sum -/

/-- A running sum `y` with the word `q` at the scale `s` added. -/
def accum (y : EReal) (q : BitVec 8) (s : EReal) : EReal := y + ((q.toInt : ℝ) : EReal) * s

/-- One term of the device's sum: the received partial output times its scale. -/
theorem pay50_apply (y : FVec Ideal S256x512 .f32) (s : Vec Ideal S1x8x128 .f32) (q : Vec Ideal S1x2x128x512 .i8) (b : Fin 2) (i : Fin 128) (d : Fin 512) :
    k0_pay50 y s q (ix2 (row b i) d) = accum (y (ix2 (row b i) d)) (q (ix4 0 b i d)) (s (ix3 0 0 0)) := by
  pointwise [k0_pay50]
  simp only [show ((b : ℕ) * 128 + (i : ℕ)) / 128 = b by omega, show ((b : ℕ) * 128 + (i : ℕ)) % 128 = i by omega, Fin.eta]
  rfl

theorem pay57_apply (y : FVec Ideal S256x512 .f32) (s : Vec Ideal S1x8x128 .f32) (q : Vec Ideal S1x2x128x512 .i8) (b : Fin 2) (i : Fin 128) (d : Fin 512) :
    k0_pay57 y (k0_pay56 s) q (ix3 b i d) = accum (y (ix2 (row b i) d)) (q (ix4 0 b i d)) (s (ix3 0 0 0)) := by
  pointwise [k0_pay57, k0_pay56]
  rfl

end Cert.KProof

end
-- ==== Proof.KerValue.lean ====
/-
The device's result in the kernel: the sum over the devices of the partial outputs for its rows, all but its own quantised.
-/
module

public import proofs.«01_k».proof.Proof.KerScale

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The quantised rows -/

theorem cast_up (V : Vec F S2x128x512 .i8) : shapeCast S2x128x512 (up V) shapeCasts_S1x2x128x512_S2x128x512 = V := by
  funext j
  exact congrArg V (Equiv.symm_apply_apply (Shape.reshapeEquiv squeeze_numel) j)

/-- The rows of a device, quantised and read back. -/
def xq (x : Vec F S2x128x512 .bf16) : FVec F S2x128x512 .bf16 :=
  mulf (sitofp .bf16 (k0_pay1 x)) (broadcastTo S2x128x512 (k0_pay6 (F := F)) broadcasts_S1x1x1_S2x128x512)

/-- Rows that arrived are read back as the device's own are. -/
theorem pay8_eq (x : Vec F S2x128x512 .bf16) : k0_pay8 (k0_pay6 (F := F)) (up (k0_pay1 x)) = xq x := by
  unfold k0_pay8 xq
  rw [cast_up]

theorem xq_apply (x : Vec Ideal S2x128x512 .bf16) (b : Fin 2) (i : Fin 128) (a : Fin 512) :
    xq x (ix3 b i a) = clip (x (ix3 b i a) * Ideal.ofBits .f32 0x41E20000#32) * Ideal.ofBits .f32 0x3D110000#32 := by
  have h : xq x (ix3 b i a)
      = (((Ideal.fptosi 8 (clip (x (ix3 b i a) * Ideal.ofBits .bf16 0x41E2#16))).toInt : ℝ) : EReal) * Ideal.ofBits .bf16 0x3D11#16 := by
    pointwise [xq, k0_pay1, k0_pay6]
    rw [word_pos, word_neg]
    rfl
  rw [h, word_clip, bits_gain, bits_step]

/-! ## The partial outputs -/

section Values

variable (A : Args Ideal)

/-- The partial output of device `g`'s heads for the rows of device `c`. -/
def partAt (g c : Dev nD) (b : Fin 2) (i : Fin 128) (d : Fin 512) : EReal :=
  ∑ n : Fin 512, meanPlain
    (fun j : Fin 128 => scoreKer (fun a => xq (A.x c) (ix3 b i a)) (fun a t => A.wq g (ix2 a (col ⟨n / 64, by omega⟩ t)))
      (fun t => A.k g (ix4 b j ⟨n / 64, by omega⟩ t)) (Ideal.ofBits .f32 0x3E000000#32))
    (fun j => A.v g (ix4 b j ⟨n / 64, by omega⟩ ⟨n % 64, by omega⟩)) * A.wo g (ix2 n d)

theorem pay4_eq (w : Vec F S512x512 .bf16) : k0_pay4 w = w := by
  funext j
  unfold k0_pay4 shapeCast
  rw [Shape.reshapeEquiv_self]

theorem pay5_eq (w : Vec F S512x512 .bf16) : k0_pay5 w = w := by
  funext j
  unfold k0_pay5 shapeCast
  rw [Shape.reshapeEquiv_self]

theorem part_eq (g c : Dev nD) (b : Fin 2) (i : Fin 128) (d : Fin 512) :
    partOf (kk A g) (vv A g) (wwq A g) (wwo A g) (xq (A.x c)) (ix2 (row b i) d) = partAt A g c b i d := by
  unfold kk vv wwq wwo
  rw [pay4_eq, pay5_eq, partOf_apply]
  rfl

/-- The greatest absolute value of the partial output of device `g` for device `c`, kept from zero. -/
def peakAt (g c : Dev nD) : EReal :=
  peak fun r l => partOf (kk A g) (vv A g) (wwq A g) (wwo A g) (xq (A.x c)) (ix2 r l)

/-- The partial output of device `g` as device `c` reads it: quantised with its own scale. -/
def nearAt (g c : Dev nD) (b : Fin 2) (i : Fin 128) (d : Fin 512) : EReal :=
  clip (partAt A g c b i d * Ideal.div ((127 : ℝ) : EReal) (peakAt A g c)) * Ideal.div (peakAt A g c) ((127 : ℝ) : EReal)

/-- What device `c` adds for the partial output of device `g`. -/
theorem sent_eq (g c : Dev nD) (b : Fin 2) (i : Fin 128) (d : Fin 512) (y : EReal) :
    accum y (rsOf A g (up (x8Of A c)) (ix4 0 b i d)) (scOf A g (up (x8Of A c)) (ix3 0 0 0)) = y + nearAt A g c b i d := by
  unfold rsOf scOf x8Of qs nearAt accum
  rw [pay8_eq, pay13_eq, quantVec_apply, pay14_apply, pay10_eq, peakVec_apply, word_clip, pay9_eq, ← part_eq]
  rfl

theorem own_eq (c : Dev nD) (b : Fin 2) (i : Fin 128) (d : Fin 512) : ownOf A c (ix2 (row b i) d) = partAt A c c b i d := by
  rw [← part_eq]
  unfold ownOf
  rw [pay7_eq]
  rfl

/-- Every term of a device's sum is added the same way. -/
theorem outOf_eq (rs : ℕ → Vec F S1x2x128x512 .i8) (sc : ℕ → Vec F S1x8x128 .f32) (own : FVec F S256x512 .f32) :
    outOf rs sc own = k0_pay57 (k0_pay50 (k0_pay50 (k0_pay50 (k0_pay50 (k0_pay50 (k0_pay50 own (sc 0) (rs 0)) (sc 1) (rs 1)) (sc 2) (rs 2))
      (sc 3) (rs 3)) (sc 4) (rs 4)) (sc 5) (rs 5)) (k0_pay56 (sc 6)) (rs 6) := rfl

theorem add_fw : ∀ (c : Fin 8) (k : Fin 7), (c + k.succ : Fin 8) = fw c k := by decide
theorem fw_ne : ∀ (c : Fin 8) (k : Fin 7), fw c k ≠ c := by decide

/-- A device's own term and the seven others, in order of distance, are the sum over all devices. -/
theorem ring_sum (c : Dev nD) (p : EReal) (f : Dev nD → EReal) :
    p + f (fw c 0) + f (fw c 1) + f (fw c 2) + f (fw c 3) + f (fw c 4) + f (fw c 5) + f (fw c 6)
      = ∑ g : Fin 8, if g = c then p else f g := by
  rw [← Equiv.sum_comp (Equiv.addLeft (c : Fin 8)), Fin.sum_univ_succ]
  simp only [Equiv.coe_addLeft, add_zero, if_true, add_fw, fw_ne, if_false]
  rw [Fin.sum_univ_seven]
  simp only [← add_assoc]
  rfl

/-- The device's result: the sum over all devices of the partial outputs for its rows, all but its own quantised. -/
theorem result_eq (c : Dev nD) (b : Fin 2) (i : Fin 128) (d : Fin 512) :
    resultOf A c (ix3 b i d) = ∑ g : Fin 8, if g = c then partAt A c c b i d else nearAt A g c b i d := by
  unfold resultOf valsOf
  rw [outOf_eq, pay57_apply]
  simp only [pay50_apply, bk_fw, sent_eq, own_eq]
  exact ring_sum c _ fun g => nearAt A g c b i d

end Values

end Cert.KProof

end
-- ==== Proof.RefRead.lean ====
/-
The reference read at an index.
-/
module

public import proofs.«01_k».proof.Proof.Soft
public import proofs.«01_k».proof.Proof.Quant
public import proofs.«01_k».proof.Proof.Gen.ReferenceIdeal.Read
public import Idealize.ShloMosaic.Lib.Pointwise
public import Idealize.ShloMosaic.Lib.KernelVsHost

@[expose] public section

noncomputable section

namespace Cert.KProof

open Idealize.ShloMosaic
open Idealize.ShloMosaic.TcCoe
open Cert.ReferenceIdeal Cert.ReferenceIdeal.Gen Cert.ReferenceIdeal.Read

section Reading

variable (x0 : (⟨S2x1024x512, .bf16⟩ : BufTy).Contents (Elt Ideal)) (x1 : (⟨S512x4096, .bf16⟩ : BufTy).Contents (Elt Ideal))
  (x2 x3 : (⟨S2x128x64x64, .bf16⟩ : BufTy).Contents (Elt Ideal)) (x4 : (⟨S4096x512, .bf16⟩ : BufTy).Contents (Elt Ideal))

/-! ## Attention -/

/-- The quantised rows. -/
theorem ref_xq (b : Fin 2) (r : Fin 1024) (a : Fin 512) :
    val_main_v10 x0 (ix3 b r a) = clip (x0 (ix3 b r a) * Ideal.ofBits .f32 0x41E20000#32) * Ideal.ofBits .f32 0x3D110000#32 := by
  unfold val_main_v10 val_main_v9 val_main_cst_2 val_main_v8 val_main_call1_v4 val_main_call1_v3 val_main_cst_1 val_main_call1_v2 val_main_call1_v1 val_main_call1_v0 val_main_cst_0 val_main_v7 val_main_v6 val_main_v5 val_main_cst val_main_v0
  pointwise [id]
  rw [bits_pos, bits_neg]
  rfl

/-- The scores. -/
theorem ref_score (b : Fin 2) (h : Fin 64) (r : Fin 1024) (j : Fin 128) :
    val_main_v15 x0 x1 x2 (ix4 b h r j)
      = scoreRef (fun a => val_main_v10 x0 (ix3 b r a)) (fun a t => x1 (ix2 a ⟨h * 64 + t, by omega⟩)) (fun t => x2 (ix4 b j h t))
          (Ideal.ofBits .f32 0x3E000000#32) := by
  unfold scoreRef
  unfold val_main_v15 val_main_v14 val_main_cst_3 val_main_v13 val_main_v12 val_main_v11 val_main_v1 val_main_v2
  generalize val_main_v10 x0 = y0
  pointwise [id]

/-- The greatest score of a row. -/
theorem ref_top (b : Fin 2) (h : Fin 64) (r : Fin 1024) :
    val_main_v16 x0 x1 x2 (ix3 b h r) = Finset.univ.fold max ⊥ fun j : Fin 128 => val_main_v15 x0 x1 x2 (ix4 b h r j) := by
  unfold val_main_v16 val_main_cst_4
  generalize val_main_v15 x0 x1 x2 = y0
  pointwise [id]
  rw [bits_low]

/-- The weights of the values. -/
theorem ref_weight (b : Fin 2) (h : Fin 64) (r : Fin 1024) (j : Fin 128) :
    val_main_v20 x0 x1 x2 (ix4 b h r j) = Ideal.exp (val_main_v15 x0 x1 x2 (ix4 b h r j) - val_main_v16 x0 x1 x2 (ix3 b h r)) := by
  unfold val_main_v20 val_main_v19 val_main_v18 val_main_v17
  generalize val_main_v15 x0 x1 x2 = y0
  generalize val_main_v16 x0 x1 x2 = y1
  pointwise [id]

/-- The weighted means of the values. -/
theorem ref_mean (b : Fin 2) (r : Fin 1024) (h t : Fin 64) :
    val_main_v27 x0 x1 x2 x3 (ix4 b r h t)
      = meanShifted (fun j : Fin 128 => val_main_v15 x0 x1 x2 (ix4 b h r j)) fun j => x3 (ix4 b j h t) := by
  have e : val_main_v27 x0 x1 x2 x3 (ix4 b r h t)
      = Ideal.div (∑ j : Fin 128, x3 (ix4 b j h t) * val_main_v20 x0 x1 x2 (ix4 b h r j)) (0 + ∑ j : Fin 128, val_main_v20 x0 x1 x2 (ix4 b h r j)) := by
    unfold val_main_v27 val_main_v26 val_main_v25 val_main_v24 val_main_v23 val_main_v22 val_main_v21 val_main_v3 val_main_cst_5
    generalize val_main_v20 x0 x1 x2 = y0
    pointwise [id]
  rw [e]
  unfold meanShifted
  simp only [ref_weight, ref_top]

/-- The partial outputs: of the heads of group `g`, for the rows of block `c`. -/
theorem ref_part (g c : Fin 8) (b : Fin 2) (i : Fin 128) (d : Fin 512) :
    val_main_v31 x0 x1 x2 x3 x4 (ix5 g c b i d)
      = ∑ n : Fin 512, x4 (ix2 ⟨g * 512 + n, by omega⟩ d)
          * val_main_v27 x0 x1 x2 x3 (ix4 b ⟨c * 128 + i, by omega⟩ ⟨g * 8 + n / 64, by omega⟩ ⟨n % 64, by omega⟩) := by
  unfold val_main_v31 val_main_v30 val_main_v29 val_main_v28 val_main_v4
  generalize val_main_v27 x0 x1 x2 x3 = y0
  pointwise [id]

/-! ## The quantised sum -/

theorem ref_peak (g c : Fin 8) (u v w : Fin 1) :
    val_main_v36 x0 x1 x2 x3 x4 (ix5 g c u v w) = max (val_main_v33 x0 x1 x2 x3 x4 (ix2 g c)) (Ideal.ofBits .f32 0x1E3CE508#32) := by
  have e : idx_main_v34 (ix5 g c u v w) = ix2 g c := funext fun a => match a with
    | ⟨0, _⟩ => rfl
    | ⟨1, _⟩ => rfl
  rw [val_main_v36_apply, val_main_v34_apply, val_main_v35_apply, val_main_cst_7_apply, e, Ideal.maximumf_def, Ideal.ofBits_def]

theorem ref_near (g c : Fin 8) (b : Fin 2) (i : Fin 128) (d : Fin 512) :
    val_main_v46 x0 x1 x2 x3 x4 (ix5 g c b i d)
      = clip (val_main_v31 x0 x1 x2 x3 x4 (ix5 g c b i d) * Ideal.div ((127 : ℝ) : EReal) (val_main_v36 x0 x1 x2 x3 x4 (ix5 g c 0 0 0)))
          * Ideal.div (val_main_v36 x0 x1 x2 x3 x4 (ix5 g c 0 0 0)) ((127 : ℝ) : EReal) := by
  have e : idx_main_v45 (ix5 g c b i d) = ix5 g c 0 0 0 := funext fun a => match a with
    | ⟨0, _⟩ => rfl
    | ⟨1, _⟩ => rfl
    | ⟨2, _⟩ => rfl
    | ⟨3, _⟩ => rfl
    | ⟨4, _⟩ => rfl
  have e' : idx_main_v39 (ix5 g c b i d) = ix5 g c 0 0 0 := funext fun a => match a with
    | ⟨0, _⟩ => rfl
    | ⟨1, _⟩ => rfl
    | ⟨2, _⟩ => rfl
    | ⟨3, _⟩ => rfl
    | ⟨4, _⟩ => rfl
  rw [val_main_v46_apply, val_main_v45_apply, val_main_v44_apply, val_main_v43_apply, val_main_cst_11_apply, val_main_v42_apply,
    val_main_call3_v4_apply, val_main_call3_v3_apply, val_main_cst_10_apply, val_main_call3_v2_apply, val_main_call3_v1_apply,
    val_main_call3_v0_apply, val_main_cst_9_apply, val_main_v41_apply, val_main_v40_apply, val_main_v39_apply, val_main_v38_apply,
    val_main_v37_apply, val_main_cst_8_apply, e, e']
  generalize val_main_v31 x0 x1 x2 x3 x4 (ix5 g c b i d) = y0
  generalize val_main_v36 x0 x1 x2 x3 x4 (ix5 g c 0 0 0) = y1
  simp only [Ideal.ofBits_def, Ideal.mulf_def, Ideal.minimumf_def, Ideal.maximumf_def, Ideal.hostDivf_def, Ideal.hostUnary_roundeven_def]
  rw [bits_pos, bits_neg]
  rfl

/-- Comparing two devices' numbers as words chooses the first value exactly on the device itself. -/
theorem choose_eq (g c : Fin 8) (a b : EReal) :
    Scalar.select (IntOp.cmpi .eq (IntOp.addi (BitVec.ofNat 32 g) 0#32) (BitVec.ofNat 32 c)) a b = if g = c then a else b := by
  have h : ∀ g c : Fin 8, IntOp.cmpi .eq (IntOp.addi (BitVec.ofNat 32 g) 0#32) (BitVec.ofNat 32 c) = if g = c then 1#1 else 0#1 := by decide
  rw [h]
  split <;> rfl

/-- Block `c` of the result: the sum over the groups of heads, all but group `c` quantised. -/
theorem ref_out (c : Fin 8) (b : Fin 2) (i : Fin 128) (d : Fin 512) :
    val_main_v56 x0 x1 x2 x3 x4 (ix3 b ⟨c * 128 + i, by omega⟩ d)
      = ∑ g : Fin 8, if g = c then val_main_v31 x0 x1 x2 x3 x4 (ix5 g c b i d) else val_main_v46 x0 x1 x2 x3 x4 (ix5 g c b i d) := by
  unfold val_main_v56 val_main_v55 val_main_v54 val_main_cst_12 val_main_v53 val_main_call4_v0 val_main_v52 val_main_v51 val_main_v50 val_main_v49 val_main_v48 val_main_v47 val_main_c
  generalize val_main_v31 x0 x1 x2 x3 x4 = y0
  generalize val_main_v46 x0 x1 x2 x3 x4 = y1
  pointwise [id]
  exact Finset.sum_congr rfl fun g _ => choose_eq g c _ _

end Reading

end Cert.KProof

end
-- ==== Proof.RefMax.lean ====
/-
The greatest magnitude of each block of the partial outputs in the reference.
-/
module

public import proofs.«01_k».proof.Proof.RefRead

@[expose] public section

noncomputable section

namespace Cert.KProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

open Cert.ReferenceIdeal Cert.ReferenceIdeal.Gen Cert.ReferenceIdeal.Read

section Reading

variable (x0 : (⟨S2x1024x512, .bf16⟩ : BufTy).Contents (Elt Ideal)) (x1 : (⟨S512x4096, .bf16⟩ : BufTy).Contents (Elt Ideal))
  (x2 x3 : (⟨S2x128x64x64, .bf16⟩ : BufTy).Contents (Elt Ideal)) (x4 : (⟨S4096x512, .bf16⟩ : BufTy).Contents (Elt Ideal))

/-- A block's place among the blocks: its first two coordinates. -/
theorem drop_block (g c : Fin 8) (b : Fin 2) (i : Fin 128) (d : Fin 512) :
    Shape.ReducesTo.drop reducesTo_S8x8x2x128x512_S8x8_d2_3_4 (ix5 g c b i d) = ix2 g c := funext fun a => match a with
  | ⟨0, _⟩ => Fin.ext (Shape.ReducesTo.drop_apply_val_of_eq _ (ix5 g c b i d) 0 0)
  | ⟨1, _⟩ => Fin.ext (Shape.ReducesTo.drop_apply_val_of_eq _ (ix5 g c b i d) 1 1)

/-- The maximum over a block is bounded by what bounds its elements. -/
theorem reduce_le (y : FVec Ideal S8x8x2x128x512 .f32) (g c : Fin 8) (z : EReal) :
    Host.reduce FloatOps.maximumf y (constant S_ .f32 0xFF800000#32) reducesTo_S8x8x2x128x512_S8x8_d2_3_4 h_S_ (ix2 g c) ≤ z
      ↔ ∀ (b : Fin 2) (i : Fin 128) (d : Fin 512), y (ix5 g c b i d) ≤ z := by
  rw [Host.reduce_eq_foldl]
  have key : ∀ (l : List S8x8x2x128x512.Idx) (a : EReal), l.foldl (fun r i => max r (y i)) a ≤ z ↔ a ≤ z ∧ ∀ i ∈ l, y i ≤ z := by
    intro l
    induction l with
    | nil => intro a; simp
    | cons i l ih => intro a; rw [List.foldl_cons, ih, max_le_iff, List.forall_mem_cons, and_assoc]
  refine (key _ _).trans ?_
  rw [show (constant S_ .f32 0xFF800000#32 : FVec Ideal S_ .f32) (Shape.Idx.first h_S_) = ⊥ from bits_low]
  constructor
  · intro h b i d
    refine h.2 _ ?_
    rw [List.mem_filter]
    exact ⟨List.mem_map.2 ⟨S8x8x2x128x512.rowMajor (ix5 g c b i d), List.mem_finRange _, Equiv.symm_apply_apply _ _⟩, by
      rw [drop_block]; exact decide_eq_true rfl⟩
  · intro h
    refine ⟨bot_le, fun j hj => ?_⟩
    have e := of_decide_eq_true (List.mem_filter.1 hj).2
    have e0 : j 0 = g := Fin.ext ((Shape.ReducesTo.drop_apply_val_of_eq reducesTo_S8x8x2x128x512_S8x8_d2_3_4 j 0 0).symm.trans (congrArg Fin.val (congrFun e 0)))
    have e1 : j 1 = c := Fin.ext ((Shape.ReducesTo.drop_apply_val_of_eq reducesTo_S8x8x2x128x512_S8x8_d2_3_4 j 1 1).symm.trans (congrArg Fin.val (congrFun e 1)))
    have ej : j = ix5 g c (j 2) (j 3) (j 4) :=
      (eq_ix5 j).trans (congrArg₂ (fun p q => (ix5 p q (j 2) (j 3) (j 4) : S8x8x2x128x512.Idx)) e0 e1)
    exact ej ▸ h _ _ _

/-- The greatest magnitude of a block. -/
theorem ref_max (g c : Fin 8) (z : EReal) : val_main_v33 x0 x1 x2 x3 x4 (ix2 g c) ≤ z
    ↔ ∀ (b : Fin 2) (i : Fin 128) (d : Fin 512),
        max (val_main_v31 x0 x1 x2 x3 x4 (ix5 g c b i d)) (-(val_main_v31 x0 x1 x2 x3 x4 (ix5 g c b i d)) : EReal) ≤ z := by
  unfold val_main_v33 val_main_cst_6
  rw [reduce_le]
  exact forall_congr' fun b => forall_congr' fun i => forall_congr' fun d => by
    rw [val_main_v32_apply, Ideal.hostAbsf_def, Ideal.absf_def]

end Reading

end Cert.KProof

end
-- ==== Proof.Join.lean ====
/-
The kernel and the reference compute the same values, stage by stage, from operands that are blocks of one another.
-/
module

public import proofs.«01_k».proof.Proof.KerValue
public import proofs.«01_k».proof.Proof.RefMax

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

open Cert.ReferenceIdeal.Read

section Join

/-- The kernel's operands are the blocks of the arrays `X`, `Wq`, `K`, `V` and `Wo` of the reference: device `c` has rows `128c …` of
    `X`, device `g` has heads `8g …` of the keys, the values and the two weights; the query weights and the keys are real. -/
structure Blocks (A : Args Ideal) (X : (⟨Cert.ReferenceIdeal.S2x1024x512, .bf16⟩ : BufTy).Contents (Elt Ideal))
    (Wq : (⟨Cert.ReferenceIdeal.S512x4096, .bf16⟩ : BufTy).Contents (Elt Ideal))
    (K V : (⟨Cert.ReferenceIdeal.S2x128x64x64, .bf16⟩ : BufTy).Contents (Elt Ideal))
    (Wo : (⟨Cert.ReferenceIdeal.S4096x512, .bf16⟩ : BufTy).Contents (Elt Ideal)) : Prop where
  hx : ∀ (c : Fin 8) (b : Fin 2) (i : Fin 128) (a : Fin 512), A.x c (ix3 b i a) = X (ix3 b ⟨c * 128 + i, by omega⟩ a)
  hwq : ∀ (g : Fin 8) (a n : Fin 512), A.wq g (ix2 a n) = Wq (ix2 a ⟨g * 512 + n, by omega⟩)
  hk : ∀ (g : Fin 8) (b : Fin 2) (j : Fin 128) (h : Fin 8) (t : Fin 64), A.k g (ix4 b j h t) = K (ix4 b j ⟨g * 8 + h, by omega⟩ t)
  hv : ∀ (g : Fin 8) (b : Fin 2) (j : Fin 128) (h : Fin 8) (t : Fin 64), A.v g (ix4 b j h t) = V (ix4 b j ⟨g * 8 + h, by omega⟩ t)
  hwo : ∀ (g : Fin 8) (n d : Fin 512), A.wo g (ix2 n d) = Wo (ix2 ⟨g * 512 + n, by omega⟩ d)
  rq : ∀ i, ∃ r : ℝ, Wq i = (r : EReal)
  rk : ∀ i, ∃ r : ℝ, K i = (r : EReal)

variable (A : Args Ideal) (X : (⟨Cert.ReferenceIdeal.S2x1024x512, .bf16⟩ : BufTy).Contents (Elt Ideal))
  (Wq : (⟨Cert.ReferenceIdeal.S512x4096, .bf16⟩ : BufTy).Contents (Elt Ideal))
  (K V : (⟨Cert.ReferenceIdeal.S2x128x64x64, .bf16⟩ : BufTy).Contents (Elt Ideal))
  (Wo : (⟨Cert.ReferenceIdeal.S4096x512, .bf16⟩ : BufTy).Contents (Elt Ideal)) (H : Blocks A X Wq K V Wo)

/-- A product of two real numbers is real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

include H

/-- Device `c`'s quantised rows are the reference's … -/
theorem rows_same (c : Fin 8) (b : Fin 2) (i : Fin 128) (a : Fin 512) :
    xq (A.x c) (ix3 b i a) = val_main_v10 X (ix3 b ⟨c * 128 + i, by omega⟩ a) := by
  rw [xq_apply, ref_xq, H.hx]

/-- … and real. -/
theorem rows_real (c : Fin 8) (b : Fin 2) (i : Fin 128) (a : Fin 512) : ∃ r : ℝ, (val_main_v10 X (ix3 b ⟨c * 128 + i, by omega⟩ a) : EReal) = r := by
  rw [ref_xq]
  exact real_mul (clip_real _) step_real

/-- The scores of a head, in either program: the scale is applied to the queries in one and to the scores in the other. -/
theorem score_same (g c : Fin 8) (b : Fin 2) (i j : Fin 128) (h : Fin 8) :
    ∃ r : ℝ, scoreKer (fun a => xq (A.x c) (ix3 b i a)) (fun a t => A.wq g (ix2 a (col h t))) (fun t => A.k g (ix4 b j h t))
        (Ideal.ofBits .f32 0x3E000000#32) = r
      ∧ (val_main_v15 X Wq K (ix4 b ⟨g * 8 + h, by omega⟩ ⟨c * 128 + i, by omega⟩ j) : EReal) = r := by
  rw [ref_score]
  have e1 : (fun a => xq (A.x c) (ix3 b i a)) = fun a => val_main_v10 X (ix3 b ⟨c * 128 + i, by omega⟩ a) :=
    funext fun a => rows_same A X Wq K V Wo H c b i a
  have e2 : (fun (a : Fin 512) (t : Fin 64) => A.wq g (ix2 a (col h t)))
      = fun (a : Fin 512) (t : Fin 64) => Wq (ix2 a ⟨(g * 8 + h) * 64 + t, by omega⟩) :=
    funext fun a => funext fun t => (H.hwq g a (col h t)).trans
      (congrArg (fun n : Fin 4096 => Wq (ix2 a n)) (Fin.ext (show (g : ℕ) * 512 + ((h : ℕ) * 64 + t) = ((g : ℕ) * 8 + h) * 64 + t by omega)))
  have e3 : (fun t => A.k g (ix4 b j h t)) = fun t => K (ix4 b j ⟨g * 8 + h, by omega⟩ t) := funext fun t => H.hk g b j h t
  rw [e1, e2, e3]
  exact score_real _ _ _ _ (fun a => rows_real A X Wq K V Wo H c b i a) (fun a t => H.rq _) (fun t => H.rk _) eighth_real

/-- A head's weighted mean of the values. -/
theorem mean_same (g c : Fin 8) (b : Fin 2) (i : Fin 128) (h : Fin 8) (t : Fin 64) :
    meanPlain (fun j : Fin 128 => scoreKer (fun a => xq (A.x c) (ix3 b i a)) (fun a t => A.wq g (ix2 a (col h t)))
        (fun t => A.k g (ix4 b j h t)) (Ideal.ofBits .f32 0x3E000000#32)) (fun j => A.v g (ix4 b j h t))
      = val_main_v27 X Wq K V (ix4 b ⟨c * 128 + i, by omega⟩ ⟨g * 8 + h, by omega⟩ t) := by
  have hs := fun j => score_same A X Wq K V Wo H g c b i j h
  rw [ref_mean, meanPlain_eq _ _ fun j => (hs j).imp fun r hr => hr.1]
  exact congrArg₂ meanShifted (funext fun j => (hs j).elim fun r hr => hr.1.trans hr.2.symm) (funext fun j => H.hv g b j h t)

/-- The partial outputs. -/
theorem part_same (g c : Fin 8) (b : Fin 2) (i : Fin 128) (d : Fin 512) :
    partAt A g c b i d = val_main_v31 X Wq K V Wo (ix5 g c b i d) := by
  rw [ref_part]
  unfold partAt
  refine Finset.sum_congr rfl fun n _ => ?_
  rw [mean_same A X Wq K V Wo H, H.hwo]
  exact mul_comm _ _

/-- The scales. -/
theorem peak_same (g c : Fin 8) : peakAt A g c = val_main_v36 X Wq K V Wo (ix5 g c 0 0 0) := by
  refine eq_of_forall_ge_iff fun z => ?_
  rw [ref_peak]
  unfold peakAt peak
  rw [max_le_iff, max_le_iff, ref_max, fold_max_le]
  refine and_congr_left fun _ => ?_
  constructor
  · intro h b i d
    have hh := (fold_max_le _ z).1 (h d) (row b i)
    beta_reduce at hh
    rwa [part_eq, part_same A X Wq K V Wo H] at hh
  · intro h d
    refine (fold_max_le _ z).2 fun r => ?_
    have hr : r = row ⟨r / 128, by omega⟩ ⟨r % 128, by omega⟩ := Fin.ext (show (r : ℕ) = r / 128 * 128 + r % 128 by omega)
    rw [hr]
    beta_reduce
    rw [part_eq, part_same A X Wq K V Wo H]
    exact h _ _ d

/-- The partial outputs as they are received. -/
theorem near_same (g c : Fin 8) (b : Fin 2) (i : Fin 128) (d : Fin 512) :
    nearAt A g c b i d = val_main_v46 X Wq K V Wo (ix5 g c b i d) := by
  rw [ref_near]
  unfold nearAt
  rw [peak_same A X Wq K V Wo H, part_same A X Wq K V Wo H]

/-- A device's result is its rows of the reference's. -/
theorem result_same (c : Fin 8) (b : Fin 2) (i : Fin 128) (d : Fin 512) :
    resultOf A c (ix3 b i d) = val_main_v56 X Wq K V Wo (ix3 b ⟨c * 128 + i, by omega⟩ d) := by
  rw [result_eq, ref_out]
  refine Finset.sum_congr rfl fun g _ => ?_
  by_cases h : g = c
  · rw [if_pos h, if_pos h, h, part_same A X Wq K V Wo H]
  · rw [if_neg h, if_neg h, near_same A X Wq K V Wo H]

end Join

end Cert.KProof

end
-- ==== Proof.Finite.lean ====
/-
What the precondition says: the query weights and the keys are real numbers.
-/
module

public import proofs.«01_k».proof.Pre_finite_KernelIdeal
public import Idealize.ShloMosaic.Lib.ReduceAll
public import Idealize.ShloMosaic.Lib.Pointwise
public import Idealize.ShloMosaic.Lib.ValueIdx
public import Idealize.ShloMosaic.PureOps.Ideal
public import Idealize.ShloMosaic.PureOps.Ideal.Laws

@[expose] public section

noncomputable section

namespace Cert.KProof

open Idealize.ShloMosaic
open Idealize.ShloMosaic.TcCoe

open Cert.Pre_finite_KernelIdeal

theorem real_of_lt (x : EReal) (h : max x (-x) < ⊤) : ∃ r : ℝ, x = r := by
  obtain ⟨h1, h2⟩ := max_lt_iff.1 h
  induction x with
  | bot => exact absurd h2 (by simp)
  | coe r => exact ⟨r, rfl⟩
  | top => exact absurd h1 (by simp)

/-- An element whose magnitude is below +∞ is a real number. -/
theorem real_of_cmp (x : EReal) (h : Ideal.cmp .olt (max x (-x)) (Ideal.ofBits .f32 0x7F800000#32) = 1#1) : ∃ r : ℝ, x = r := by
  refine real_of_lt x (lt_of_lt_of_le (Ideal.cmp_olt_eq_one _ _ |>.1 h) le_top)

instance scalar_single : Subsingleton S_.Idx := ⟨fun a b => funext fun i => i.elim0⟩

variable [Facts] (x : FVec Ideal S2x128x512 .bf16) (wq : FVec Ideal S512x512 .bf16) (k v : FVec Ideal S2x128x64x64 .bf16)
  (wo : FVec Ideal S512x512 .bf16)

/-- Both halves of the precondition hold. -/
theorem pre_both (h : fn x wq k v wo = fun _ => 1#1) : (∀ i, ∃ r : ℝ, wq i = (r : EReal)) ∧ ∀ i, ∃ r : ℝ, k i = (r : EReal) := by
  have h0 := congrFun h Idealize.ShloMosaic.ValueIdx.ix0
  unfold fn at h0
  obtain ⟨h1, h2⟩ := IntOp.andi_eq_one.1 h0
  exact ⟨fun i => real_of_cmp _ (Host.reduce_andi_all _ _ _ _ _ h1 i), fun i => real_of_cmp _ (Host.reduce_andi_all _ _ _ _ _ h2 i)⟩

end Cert.KProof

end
-- ==== Proof.Steps.lean ====
/-
One lemma per communication step of the kernel, on a symbolic device: the signal, the barrier wait, the wait for a
transfer, the three kinds of transfer, and the loads and stores of a slot.
-/
module

public import proofs.«01_k».proof.Proof.Schedule

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (T : Vals F)

/-- The run of a program of device `c` to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What the steps read and never use up: the cells' records and the levels. -/
def env : sProp 𝕄 := iprop(records T ∗ levAts L lv)
instance env_persistent : BI.Persistent (env T) := by unfold env; infer_instance

section Steps
variable (c : Dev nD) {α : Type}

theorem step_ret {a : α} {Q : α → sProp 𝕄} : Q a ⊢ WP c (.ret a) Q := by
  show Q a ⊢ wp frame _ _ (Prog.ret a) Q
  rw [wp_ret]
  iintro H; imodintro; iexact H

/-! ## Signalling and the barrier -/

/-- The token of the barrier duty device `c` pays with its signal `i`. -/
def tokB (i : ℕ) : sProp 𝕄 := dutyTok ER (barCell (fw c i)) 0 i

theorem ow_cons {n : ℕ} {x : ℕ × ℕ} (hl : dl n = x :: dl (n + 1)) : ow c (dl n) = ow c (dl (n + 1)) + tallyAt (dueCell c x) () (dueAmt x) := by
  rw [hl]; rfl

/-- The `i`-th signal, to the device `1 + i` places after `c`. -/
theorem step_signal (n : Dev nD) (i : ℕ) (hi : i < 7) (nn a : ℕ) (ha : a = 1) (hn : n = fw c i) (hl : dl nn = (6, i) :: dl (nn + 1))
    {k : PUnit → Prog (TpuEff nD τ sig (Elt F) Λ₀ .tc) α} {Q : α → sProp 𝕄} :
    ⊢ iprop(env T -∗ OW c nn -∗ tokB c i -∗ barPay c i hi -∗
        (OW c (nn + 1) -∗ WP c (k ⟨⟩) Q) -∗ WP c (.op (.semSignal (n : Thread nD τ) barS a) k) Q) := by
  subst hn ha
  unfold env OW tokB
  iintro ⟨#HR, #Hlev⟩ ⟨%W, HO⟩ Htok Hpay Hk
  ihave HI := (rec_bar T (fw c i)) $$ HR
  icases HI with ⟨⟨%κ, #HI⟩, #Hr⟩
  iapply (Rounds.wp_signal 𝒱₀ ER (rd T) (c : Thread nD τ) none (dst := (fw c i : Thread nD τ)) (κ := κ) (d := i)
      (by rw [duties_bar]; exact Finset.mem_range.mpr hi) (amount_bar T (fw c i) i) () (ow c (dl (nn + 1))) (ow_cons c hl)) $$ [HO Htok Hpay]
  · isplitr; · iexact HI
    isplitl [HO]; · iexact HO
    isplitl [Htok]; · iexact Htok
    isplitl [Hpay]
    · rw [payload_bar T (fw c i) hi, bk_fw]; iexact Hpay
    · iexact Hr
  iintro HO
  iapply Hk
  iexists W; iexact HO

/-- What the barrier brings device `c`: from each other device, the slots of it that `c` writes. -/
def barGot : sProp 𝕄 := bigSep (Finset.range 7) fun d => (rd T).payload (barCell c) 0 d

/-- The position and the launch credit of the barrier wait. -/
def barWait : sProp 𝕄 := iprop(cred (tallyAt (barCell c) () 7) ∗ atPos ER (barCell c) 0 ∅ 0)

/-- The wait for the seven signals; the cell is closed at once. -/
theorem step_barrier (nn a : ℕ) (ha : a = 7) (hl : ∀ x ∈ dl nn, IsDue x ∧ 1 < dueLv x)
    {k : PUnit → Prog (TpuEff nD τ sig (Elt F) Λ₀ .tc) α} {Q : α → sProp 𝕄} :
    ⊢ iprop(env T -∗ OW c nn -∗ barWait c -∗
        (iprop(OW c nn ∗ semVal (barCell c) 0 ∗ barGot T c) -∗ WP c (k ⟨⟩) Q) -∗ WP c (.op (.semWait barS a) k) Q) := by
  subst ha
  unfold env OW barWait barGot
  iintro ⟨#HR, #Hlev⟩ ⟨%W, HO⟩ ⟨Hc, Hat⟩ Hk
  ihave HI := (rec_bar T c) $$ HR
  icases HI with ⟨⟨%κ, #HI⟩, #Hr⟩
  iapply (Rounds.wp_wait_rest_token 𝒱₀ ER (rd T) (c : Thread nD τ) none (κ := κ)
      (wpE_semWait_eq 𝒱₀ (c : Thread nD τ) none Set.univ) (Set.mem_univ _) () (O := ow c (dl nn)) (W := W) (R := 0) (m := 0) (T := ∅)
      (by rw [expect_bar])) $$ [HO Hc Hat]
  · isplitr; · iexact HI
    isplitl [Hc]; · iexact Hc
    isplitl [HO]; · iexact HO
    isplitr; · iapply (mayWait c _ (dl nn) 1 rfl hl); iexact Hlev
    iexact Hat
  iintro ⟨HO, Hat, -, Hpay⟩
  ihave Hp := (Entails.of_eq (rest_bar T c)) $$ Hpay
  imod (Rounds.cell_close ER (rd T) (Set.mem_univ κ) (fun h => h) (R := 0 + 1) (duties_later T (barCell c))) $$ [Hat] with Hz
  · isplitr; · iexact HI
    iexact Hat
  iapply Hk
  isplitl [HO]; · iexists _; iexact HO
  isplitl [Hz]; · iexact Hz
  iexact Hp

/-! ## Waiting for a transfer -/

/-- A wait to come on the cell of kind `k`, slot `i`: its credit and the device's position there. -/
def due (k i : ℕ) : sProp 𝕄 := iprop(cred (tallyAt (dcell c k i) () (amtK k)) ∗ atPos ER (dcell c k i) 0 ∅ 0)

/-- The wait for a transfer; the cell is closed at once. -/
theorem step_wait {k i : ℕ} (hk : k < 6) (hi : i < 7) (nn : ℕ) {sem : DmaSem sig} (hsem : sem = dsem k i)
    {sp sp' : Space} {s s' : Shape} {e e' : EltTy}
    {src : Memref sig .tc sp' s' e'} {dst : Memref sig .tc sp s e} {hsrc : src.view.WordExact} {hdst : dst.view.WordExact}
    (hN : dst.view.dmaCredit = amtK k) (n : ℕ) (hlv : lvS (.dma (dsem k i)) = n) (hl : ∀ x ∈ dl nn, IsDue x ∧ n < dueLv x)
    {K : PUnit → Prog (TpuEff nD τ sig (Elt F) Λ₀ .tc) α} {Q : α → sProp 𝕄} :
    ⊢ iprop(env T -∗ OW c nn -∗ due c k i -∗
        (iprop(OW c nn ∗ semVal (dcell c k i) 0 ∗ payK T c k i hi) -∗ WP c (K ⟨⟩) Q)
          -∗ WP c (.op (.waitDma2 sem src dst hsrc hdst) K) Q) := by
  subst hsem
  unfold env OW due
  iintro ⟨#HR, #Hlev⟩ ⟨%W, HO⟩ ⟨Hc, Hat⟩ Hk
  ihave HI := (rec_d T c hk hi) $$ HR
  icases HI with ⟨⟨%κ, #HI⟩, #Hr⟩
  rw [← hN]
  iapply (Rounds.wp_wait_rest_token 𝒱₀ ER (rd T) (c : Thread nD τ) none (κ := κ)
      (wpE_waitDma2_eq 𝒱₀ (c : Thread nD τ) none Set.univ) (Set.mem_univ _) () (O := ow c (dl nn)) (W := W) (R := 0) (m := 0) (T := ∅)
      (by rw [Nat.zero_add, expect_d T c hk hi, hN])) $$ [HO Hc Hat]
  · isplitr; · iexact HI
    isplitl [Hc]; · iexact Hc
    isplitl [HO]; · iexact HO
    isplitr; · iapply (mayWait c _ (dl nn) n hlv hl); iexact Hlev
    iexact Hat
  iintro ⟨HO, Hat, -, Hpay⟩
  ihave Hp := (Entails.of_eq (rest_d T c hk hi)) $$ Hpay
  imod (Rounds.cell_close ER (rd T) (Set.mem_univ κ) (fun h => h) (R := 0 + 1) (duties_later T (dcell c k i))) $$ [Hat] with Hz
  · isplitr; · iexact HI
    iexact Hat
  iapply Hk
  isplitl [HO]; · iexists _; iexact HO
  isplitl [Hz]; · iexact Hz
  iexact Hp

section Waits
variable {i : ℕ} {hi : i < 7} {nn : ℕ} {sem : DmaSem sig} {sp sp' : Space} {s s' : Shape} {e e' : EltTy}
    {src : Memref sig .tc sp' s' e'} {dst : Memref sig .tc sp s e} {hsrc : src.view.WordExact} {hdst : dst.view.WordExact}
    {K : PUnit → Prog (TpuEff nD τ sig (Elt F) Λ₀ .tc) α}

/-- The wait for the arrival of the gather's rows in slot `i`. -/
theorem wait_ag {Q : α → sProp 𝕄} (hi : i < 7) (hsem : sem = dsem 1 i) (hN : dst.view.dmaCredit = NX) (hlv : lvS (.dma (dsem 1 i)) = 2)
    (hl : ∀ x ∈ dl nn, IsDue x ∧ 2 < dueLv x) :
    ⊢ iprop(env T -∗ OW c nn -∗ due c 1 i -∗ (iprop(OW c nn ∗ semVal (dcell c 1 i) 0 ∗ atX agM c i hi (up (T.x8 (bk c i)))) -∗ WP c (K ⟨⟩) Q)
      -∗ WP c (.op (.waitDma2 sem src dst hsrc hdst) K) Q) :=
  step_wait T c (k := 1) (by decide) hi nn hsem hN 2 hlv hl

/-- The wait for the arrival of the scatter's quantised sums in slot `i`. -/
theorem wait_rr {Q : α → sProp 𝕄} (hi : i < 7) (hsem : sem = dsem 3 i) (hN : dst.view.dmaCredit = NX) (hlv : lvS (.dma (dsem 3 i)) = 3)
    (hl : ∀ x ∈ dl nn, IsDue x ∧ 3 < dueLv x) :
    ⊢ iprop(env T -∗ OW c nn -∗ due c 3 i -∗ (iprop(OW c nn ∗ semVal (dcell c 3 i) 0 ∗ atX rrM c i hi (T.rs (fw c i) i)) -∗ WP c (K ⟨⟩) Q)
      -∗ WP c (.op (.waitDma2 sem src dst hsrc hdst) K) Q) :=
  step_wait T c (k := 3) (by decide) hi nn hsem hN 3 hlv hl

/-- The wait for the arrival of the scatter's scale in slot `i`. -/
theorem wait_sr {Q : α → sProp 𝕄} (hi : i < 7) (hsem : sem = dsem 5 i) (hN : dst.view.dmaCredit = NS) (hlv : lvS (.dma (dsem 5 i)) = 3)
    (hl : ∀ x ∈ dl nn, IsDue x ∧ 3 < dueLv x) :
    ⊢ iprop(env T -∗ OW c nn -∗ due c 5 i -∗ (iprop(OW c nn ∗ semVal (dcell c 5 i) 0 ∗ atS srM c i hi (T.sc (fw c i) i)) -∗ WP c (K ⟨⟩) Q)
      -∗ WP c (.op (.waitDma2 sem src dst hsrc hdst) K) Q) :=
  step_wait T c (k := 5) (by decide) hi nn hsem hN 3 hlv hl

/-- The waits for the departures, by which the source of the transfer comes back. -/
theorem wait_xi {Q : α → sProp 𝕄} (hi : i < 7) (hsem : sem = dsem 0 i) (hN : dst.view.dmaCredit = NX) (hlv : lvS (.dma (dsem 0 i)) = 0)
    (hl : ∀ x ∈ dl nn, IsDue x ∧ 0 < dueLv x) :
    ⊢ iprop(env T -∗ OW c nn -∗ due c 0 i -∗ (iprop(OW c nn ∗ semVal (dcell c 0 i) 0 ∗ xiP c (shareTokN fullShare i) (T.x8 c)) -∗ WP c (K ⟨⟩) Q)
      -∗ WP c (.op (.waitDma2 sem src dst hsrc hdst) K) Q) :=
  step_wait T c (k := 0) (by decide) hi nn hsem hN 0 hlv hl
theorem wait_rs {Q : α → sProp 𝕄} (hi : i < 7) (hsem : sem = dsem 2 i) (hN : dst.view.dmaCredit = NX) (hlv : lvS (.dma (dsem 2 i)) = 0)
    (hl : ∀ x ∈ dl nn, IsDue x ∧ 0 < dueLv x) :
    ⊢ iprop(env T -∗ OW c nn -∗ due c 2 i -∗ (iprop(OW c nn ∗ semVal (dcell c 2 i) 0 ∗ anyX rsM c i hi) -∗ WP c (K ⟨⟩) Q)
      -∗ WP c (.op (.waitDma2 sem src dst hsrc hdst) K) Q) :=
  step_wait T c (k := 2) (by decide) hi nn hsem hN 0 hlv hl
theorem wait_ss {Q : α → sProp 𝕄} (hi : i < 7) (hsem : sem = dsem 4 i) (hN : dst.view.dmaCredit = NS) (hlv : lvS (.dma (dsem 4 i)) = 0)
    (hl : ∀ x ∈ dl nn, IsDue x ∧ 0 < dueLv x) :
    ⊢ iprop(env T -∗ OW c nn -∗ due c 4 i -∗ (iprop(OW c nn ∗ semVal (dcell c 4 i) 0 ∗ anyS ssM c i hi) -∗ WP c (K ⟨⟩) Q)
      -∗ WP c (.op (.waitDma2 sem src dst hsrc hdst) K) Q) :=
  step_wait T c (k := 4) (by decide) hi nn hsem hN 0 hlv hl

end Waits

/-! ## Sending -/

/-- The tokens of a transfer out of slot `i` whose departure is of kind `k` and whose arrival, on device `n`, of kind `k + 1`, and
    the device's position on its departure cell. -/
def tokD (n : Dev nD) (k i : ℕ) : sProp 𝕄 :=
  iprop(dutyTok ER (dcell c k i) 0 0 ∗ dutyTok ER (dcell n (k + 1) i) 0 0 ∗ atPos ER (dcell c k i) 0 ∅ 0)

/-- The gather's transfer `i`: the device's own quantised rows into slot `i` of the device `1 + i` places after. -/
theorem step_ag (n : Dev nD) (i : ℕ) (hi : i < 7) (nn : ℕ) {sS sR : DmaSem sig} (hS : sS = dsem 0 i) (hR : sR = dsem 1 i)
    (hn : n = fw c i) (hl : dl nn = (1, i) :: dl (nn + 1))
    {hsc : (slotX agM i hi).view.ref.isScScratch = false}
    {hsrc : xiM.view.WordExact} {hdst : (slotX agM i hi).view.WordExact}
    {hsem : DmaTarget.Typed .vmem (.dma sR) (.remote (n : Thread nD τ) (slotX agM i hi : Memref sig (n : Thread nD τ).2.kind .vmem S2x128x512 .i8) (.dma sS) hsc)}
    {k : PUnit → Prog (TpuEff nD τ sig (Elt F) Λ₀ .tc) α} {Q : α → sProp 𝕄} :
    ⊢ iprop(env T -∗ OW c nn -∗ tokD c (fw c i) 0 i -∗ xiP c (shareTokN fullShare i) (T.x8 c) -∗ anyX agM (fw c i) i hi -∗
        (iprop(OW c (nn + 1) ∗ due c 0 i) -∗ WP c (k ⟨⟩) Q)
          -∗ WP c (.op (.enqueueDma xiM (.remote (n : Thread nD τ) (slotX agM i hi) (.dma sS) hsc) (.dma sR) hsrc hdst hsem) k) Q) := by
  subst hn hS hR
  unfold env OW tokD due anyX anyR
  iintro ⟨#HR, #Hlev⟩ ⟨%W, HO⟩ ⟨HtS, HtR, Hat⟩ Hx ⟨%fd, Hd⟩ Hk
  ihave HI := (rec_d T c (k := 0) (by decide) hi) $$ HR
  icases HI with ⟨⟨%κ, #HI⟩, #Hr⟩
  ihave HI' := (rec_d T (fw c i) (k := 1) (by decide) hi) $$ HR
  icases HI' with ⟨⟨%κ', #HI'⟩, #Hr'⟩
  iapply (Rounds.wp_send_pointsTo 𝒱₀ ER (rd T) (c : Thread nD τ) none (κ₁ := κ) (κ₂ := κ')
    (src := xiM) (dst := slotX agM i hi) (c' := (fw c i : Thread nD τ)) (sS := .dma (dsem 0 i)) (sem := .dma (dsem 1 i))
    (q := shareTokN fullShare i) (fs := T.x8 c)
    (r₁ := 0) (r₂ := 0) (d₁ := 0) (d₂ := 0) (fd := fd)
    (by rw [duties_d T c (by decide) hi]; exact Finset.mem_singleton_self _)
    (by rw [duties_d T (fw c i) (by decide) hi]; exact Finset.mem_singleton_self _)
    () () NX rfl (amount_d T c (by decide) hi 0) (amount_d T (fw c i) (by decide) hi 0) (ow c (dl (nn + 1)))
    (ow_cons c hl) (W := W)
    (by rw [payload_d T c (by decide) hi]; show _ ⊢ xiP c (shareTokN fullShare i) (T.x8 c); unfold xiP; rw [View.set_whole])
    (by
      rw [payload_d T (fw c i) (by decide) hi, set_slot]
      show _ ⊢ atX agM (fw c i) i hi (up (T.x8 (bk (fw c i) i)))
      rw [bk_fw]
      unfold atX atR slotP
      iintro H
      iexists _
      isplitr
      · ipureintro
        exact readAt_land agM i hi (fw c i) fd (T.x8 c)
      · iexact H)) $$ [HO HtS HtR Hx Hd]
  · isplitr; · iexact HI
    isplitr; · iexact HI'
    isplitl [Hx]; · unfold xiP; rw [View.set_whole]; iexact Hx
    isplitl [Hd]; · rw [set_slot]; iexact Hd
    isplitl [HO]; · iexact HO
    isplitl [HtS]; · iexact HtS
    isplitr; · iexact Hr
    isplitl [HtR]; · iexact HtR
    iexact Hr'
  iintro ⟨Hc, HO⟩
  iapply Hk
  isplitl [HO]; · iexists _; iexact HO
  isplitl [Hc]; · iexact Hc
  iexact Hat

/-- A scatter's transfer `i` of quantised partial sums: slot `i` into slot `i` of the device `1 + i` places before. -/
theorem step_rs (n : Dev nD) (i : ℕ) (hi : i < 7) (nn : ℕ) {sS sR : DmaSem sig} (hS : sS = dsem 2 i) (hR : sR = dsem 3 i)
    (hn : n = bk c i) (hl : dl nn = (3, i) :: dl (nn + 1))
    {hsc : (slotX rrM i hi).view.ref.isScScratch = false}
    {hsrc : (slotX rsM i hi).view.WordExact} {hdst : (slotX rrM i hi).view.WordExact}
    {hsem : DmaTarget.Typed .vmem (.dma sR) (.remote (n : Thread nD τ) (slotX rrM i hi : Memref sig (n : Thread nD τ).2.kind .vmem S2x128x512 .i8) (.dma sS) hsc)}
    {k : PUnit → Prog (TpuEff nD τ sig (Elt F) Λ₀ .tc) α} {Q : α → sProp 𝕄} :
    ⊢ iprop(env T -∗ OW c nn -∗ tokD c (bk c i) 2 i -∗ atX rsM c i hi (T.rs c i) -∗ anyX rrM (bk c i) i hi -∗
        (iprop(OW c (nn + 1) ∗ due c 2 i) -∗ WP c (k ⟨⟩) Q)
          -∗ WP c (.op (.enqueueDma (slotX rsM i hi) (.remote (n : Thread nD τ) (slotX rrM i hi) (.dma sS) hsc) (.dma sR) hsrc hdst hsem) k) Q) := by
  subst hn hS hR
  unfold env OW tokD due anyX anyR atX atR slotP
  iintro ⟨#HR, #Hlev⟩ ⟨%W, HO⟩ ⟨HtS, HtR, Hat⟩ ⟨%fs, %hfs, Hx⟩ ⟨%fd, Hd⟩ Hk
  ihave HI := (rec_d T c (k := 2) (by decide) hi) $$ HR
  icases HI with ⟨⟨%κ, #HI⟩, #Hr⟩
  ihave HI' := (rec_d T (bk c i) (k := 3) (by decide) hi) $$ HR
  icases HI' with ⟨⟨%κ', #HI'⟩, #Hr'⟩
  iapply (Rounds.wp_send_pointsTo 𝒱₀ ER (rd T) (c : Thread nD τ) none (κ₁ := κ) (κ₂ := κ')
    (src := slotX rsM i hi) (dst := slotX rrM i hi) (c' := (bk c i : Thread nD τ)) (sS := .dma (dsem 2 i)) (sem := .dma (dsem 3 i))
    (q := fullShare) (fs := fs)
    (r₁ := 0) (r₂ := 0) (d₁ := 0) (d₂ := 0) (fd := fd)
    (by rw [duties_d T c (by decide) hi]; exact Finset.mem_singleton_self _)
    (by rw [duties_d T (bk c i) (by decide) hi]; exact Finset.mem_singleton_self _)
    () () NX rfl (amount_d T c (by decide) hi 0) (amount_d T (bk c i) (by decide) hi 0) (ow c (dl (nn + 1)))
    (ow_cons c hl) (W := W)
    (by
      rw [payload_d T c (by decide) hi, set_slot]
      show _ ⊢ anyX rsM c i hi
      unfold anyX anyR slotP
      iintro H; iexists _; iexact H)
    (by
      rw [payload_d T (bk c i) (by decide) hi, set_slot]
      show _ ⊢ atX rrM (bk c i) i hi (T.rs (fw (bk c i) i) i)
      rw [fw_bk]
      unfold atX atR slotP
      iintro H
      iexists _
      isplitr
      · ipureintro
        exact (readAt_land_slot rsM rrM (rX i hi) (fun _ => rfl) squeezes_S1x2x128x512_S2x128x512 fs fd).trans hfs
      · iexact H)) $$ [HO HtS HtR Hx Hd]
  · isplitr; · iexact HI
    isplitr; · iexact HI'
    isplitl [Hx]; · rw [set_slot]; iexact Hx
    isplitl [Hd]; · rw [set_slot]; iexact Hd
    isplitl [HO]; · iexact HO
    isplitl [HtS]; · iexact HtS
    isplitr; · iexact Hr
    isplitl [HtR]; · iexact HtR
    iexact Hr'
  iintro ⟨Hc, HO⟩
  iapply Hk
  isplitl [HO]; · iexists _; iexact HO
  isplitl [Hc]; · iexact Hc
  iexact Hat

/-- A scatter's transfer `i` of scales. -/
theorem step_sc (n : Dev nD) (i : ℕ) (hi : i < 7) (nn : ℕ) {sS sR : DmaSem sig} (hS : sS = dsem 4 i) (hR : sR = dsem 5 i)
    (hn : n = bk c i) (hl : dl nn = (5, i) :: dl (nn + 1))
    {hsc : (slotS srM i hi).view.ref.isScScratch = false}
    {hsrc : (slotS ssM i hi).view.WordExact} {hdst : (slotS srM i hi).view.WordExact}
    {hsem : DmaTarget.Typed .vmem (.dma sR) (.remote (n : Thread nD τ) (slotS srM i hi : Memref sig (n : Thread nD τ).2.kind .vmem S8x128 .f32) (.dma sS) hsc)}
    {k : PUnit → Prog (TpuEff nD τ sig (Elt F) Λ₀ .tc) α} {Q : α → sProp 𝕄} :
    ⊢ iprop(env T -∗ OW c nn -∗ tokD c (bk c i) 4 i -∗ atS ssM c i hi (T.sc c i) -∗ anyS srM (bk c i) i hi -∗
        (iprop(OW c (nn + 1) ∗ due c 4 i) -∗ WP c (k ⟨⟩) Q)
          -∗ WP c (.op (.enqueueDma (slotS ssM i hi) (.remote (n : Thread nD τ) (slotS srM i hi) (.dma sS) hsc) (.dma sR) hsrc hdst hsem) k) Q) := by
  subst hn hS hR
  unfold env OW tokD due anyS anyR atS atR slotP
  iintro ⟨#HR, #Hlev⟩ ⟨%W, HO⟩ ⟨HtS, HtR, Hat⟩ ⟨%fs, %hfs, Hx⟩ ⟨%fd, Hd⟩ Hk
  ihave HI := (rec_d T c (k := 4) (by decide) hi) $$ HR
  icases HI with ⟨⟨%κ, #HI⟩, #Hr⟩
  ihave HI' := (rec_d T (bk c i) (k := 5) (by decide) hi) $$ HR
  icases HI' with ⟨⟨%κ', #HI'⟩, #Hr'⟩
  iapply (Rounds.wp_send_pointsTo 𝒱₀ ER (rd T) (c : Thread nD τ) none (κ₁ := κ) (κ₂ := κ')
    (src := slotS ssM i hi) (dst := slotS srM i hi) (c' := (bk c i : Thread nD τ)) (sS := .dma (dsem 4 i)) (sem := .dma (dsem 5 i))
    (q := fullShare) (fs := fs)
    (r₁ := 0) (r₂ := 0) (d₁ := 0) (d₂ := 0) (fd := fd)
    (by rw [duties_d T c (by decide) hi]; exact Finset.mem_singleton_self _)
    (by rw [duties_d T (bk c i) (by decide) hi]; exact Finset.mem_singleton_self _)
    () () NS rfl (amount_d T c (by decide) hi 0) (amount_d T (bk c i) (by decide) hi 0) (ow c (dl (nn + 1)))
    (ow_cons c hl) (W := W)
    (by
      rw [payload_d T c (by decide) hi, set_slot]
      show _ ⊢ anyS ssM c i hi
      unfold anyS anyR slotP
      iintro H; iexists _; iexact H)
    (by
      rw [payload_d T (bk c i) (by decide) hi, set_slot]
      show _ ⊢ atS srM (bk c i) i hi (T.sc (fw (bk c i) i) i)
      rw [fw_bk]
      unfold atS atR slotP
      iintro H
      iexists _
      isplitr
      · ipureintro
        exact (readAt_land_slot ssM srM (rS i hi) (fun _ => rfl) squeezes_S1x8x128_S8x128 fs fd).trans hfs
      · iexact H)) $$ [HO HtS HtR Hx Hd]
  · isplitr; · iexact HI
    isplitr; · iexact HI'
    isplitl [Hx]; · rw [set_slot]; iexact Hx
    isplitl [Hd]; · rw [set_slot]; iexact Hd
    isplitl [HO]; · iexact HO
    isplitl [HtS]; · iexact HtS
    isplitr; · iexact Hr
    isplitl [HtR]; · iexact HtR
    iexact Hr'
  iintro ⟨Hc, HO⟩
  iapply Hk
  isplitl [HO]; · iexists _; iexact HO
  isplitl [Hc]; · iexact Hc
  iexact Hat

/-! ## Loading and storing a slot -/

section Access
variable {s : Shape} {e : EltTy} {M : Memref sig .tc .vmem s e} {r : Rect s}

/-- A load of a slot whose contents do not matter. -/
theorem step_load_any {hl : M.view.LoadsAt r.toLoadRect} {k : (r.shape.Idx → Elt F e) → Prog (TpuEff nD τ sig (Elt F) Λ₀ .tc) α} {Q : α → sProp 𝕄} :
    ⊢ iprop(anyR M c r -∗ (∀ V, anyR M c r -∗ WP c (k V) Q) -∗ WP c (.op (.load M r.toLoadRect hl) k) Q) := by
  unfold anyR slotP
  iintro ⟨%f, H⟩ Hk
  iapply (wp_load_rect 𝒱₀ (c : Thread nD τ) none Set.univ (m := M) (r := r) subset_rfl) $$ H
  iintro H
  iapply Hk
  iexists f; iexact H

/-- A load of a slot reads its contents. -/
theorem step_load {hl : M.view.LoadsAt r.toLoadRect} {V : r.shape.Idx → Elt F e} {k : (r.shape.Idx → Elt F e) → Prog (TpuEff nD τ sig (Elt F) Λ₀ .tc) α} {Q : α → sProp 𝕄} :
    ⊢ iprop(atR M c r V -∗ (atR M c r V -∗ WP c (k V) Q) -∗ WP c (.op (.load M r.toLoadRect hl) k) Q) := by
  unfold atR slotP
  iintro ⟨%f, %hf, H⟩ Hk
  iapply (wp_load_rect 𝒱₀ (c : Thread nD τ) none Set.univ (m := M) (r := r) subset_rfl) $$ H
  iintro H
  have hf' : M.view.readAt (Elt F) r.toLoadRect f = V := hf
  rw [← hf']
  iapply Hk
  iexists f
  isplitr; · ipureintro; rfl
  iexact H

/-- A store through a slot leaves what was stored. -/
theorem step_store {w : r.shape.Idx → Elt F e} {hs} {hm} {k : PUnit → Prog (TpuEff nD τ sig (Elt F) Λ₀ .tc) α} {Q : α → sProp 𝕄} :
    ⊢ iprop(anyR M c r -∗ (atR M c r w -∗ WP c (k ⟨⟩) Q) -∗ WP c (.op (.store M r w Finset.univ hs hm) k) Q) := by
  unfold anyR atR slotP
  iintro ⟨%f, H⟩ Hk
  iapply (wp_store 𝒱₀ (c : Thread nD τ) none Set.univ (m := M) (r := r) (w := w) (Mk := Finset.univ) (S := (M.access r).set) (f := f) (by rw [View.setOn_univ])) $$ H
  iintro H
  iapply Hk
  iexists _
  isplitr; · ipureintro; exact readAt_store M r f w
  iexact H

end Access

section Whole
variable {cs : CoreSpace} {i : Fin (sig.nNear .tc cs)} {hκ : sig.names .tc cs i = true}

/-- A load of a whole buffer reads what it holds. -/
theorem step_load_whole {off : Fin (sig.tyNear .tc cs i).shape.rank → ℕ} (h : off = fun _ => 0) {inb : ∀ a, off a + (sig.tyNear .tc cs i).shape.size a ≤ (sig.tyNear .tc cs i).shape.size a}
    {q : PosShare TreeShare} {f : (sig.tyNear .tc cs i).Contents (Elt F)}
    {hl : (Memref.whole ⟨cs, i, hκ⟩ : Memref sig .tc _ _ _).view.LoadsAt (Rect.unit off (sig.tyNear .tc cs i).shape.size inb).toLoadRect}
    {k : ((sig.tyNear .tc cs i).shape.Idx → Elt F (sig.tyNear .tc cs i).elt) → Prog (TpuEff nD τ sig (Elt F) Λ₀ .tc) α} {Q : α → sProp 𝕄} :
    ⊢ iprop((((c : Thread nD τ).loc ⟨cs, i, hκ⟩) ↦{q} f) -∗ ((((c : Thread nD τ).loc ⟨cs, i, hκ⟩) ↦{q} f) -∗ WP c (k f) Q)
        -∗ WP c (.op (.load (Memref.whole ⟨cs, i, hκ⟩) (Rect.unit off (sig.tyNear .tc cs i).shape.size inb).toLoadRect hl) k) Q) := by
  have hf := Memref.readAt_unit_zero (Elt F) ⟨cs, i, hκ⟩ h inb f
  iintro H Hk
  iapply (wp_load 𝒱₀ (c : Thread nD τ) none Set.univ (m := Memref.whole ⟨cs, i, hκ⟩) (S := Finset.univ) (Finset.subset_univ _)) $$ H
  iintro H
  rw [hf]
  iapply Hk
  iexact H

/-- A load of a rectangle of a whole buffer reads that part of what it holds. -/
theorem step_load_part {r : Rect (sig.tyNear .tc cs i).shape} {q : PosShare TreeShare} {f : (sig.tyNear .tc cs i).Contents (Elt F)}
    {hl : (Memref.whole ⟨cs, i, hκ⟩ : Memref sig .tc _ _ _).view.LoadsAt r.toLoadRect}
    {k : (r.shape.Idx → Elt F (sig.tyNear .tc cs i).elt) → Prog (TpuEff nD τ sig (Elt F) Λ₀ .tc) α} {Q : α → sProp 𝕄} :
    ⊢ iprop((((c : Thread nD τ).loc ⟨cs, i, hκ⟩) ↦{q} f)
        -∗ ((((c : Thread nD τ).loc ⟨cs, i, hκ⟩) ↦{q} f) -∗ WP c (k ((Memref.whole ⟨cs, i, hκ⟩ : Memref sig .tc _ _ _).view.readAt (Elt F) r.toLoadRect f)) Q)
        -∗ WP c (.op (.load (Memref.whole ⟨cs, i, hκ⟩) r.toLoadRect hl) k) Q) := by
  iintro H Hk
  iapply (wp_load 𝒱₀ (c : Thread nD τ) none Set.univ (m := Memref.whole ⟨cs, i, hκ⟩) (S := Finset.univ) (Finset.subset_univ _)) $$ H
  iintro H
  iapply Hk
  iexact H

/-- A store over a whole buffer leaves what was stored. -/
theorem step_store_whole {off : Fin (sig.tyNear .tc cs i).shape.rank → ℕ} (h : off = fun _ => 0) {inb : ∀ a, off a + (sig.tyNear .tc cs i).shape.size a ≤ (sig.tyNear .tc cs i).shape.size a}
    {f w : (sig.tyNear .tc cs i).Contents (Elt F)} {hs} {hm} {k : PUnit → Prog (TpuEff nD τ sig (Elt F) Λ₀ .tc) α} {Q : α → sProp 𝕄} :
    ⊢ iprop((((c : Thread nD τ).loc ⟨cs, i, hκ⟩) ↦{fullShare} f) -∗ ((((c : Thread nD τ).loc ⟨cs, i, hκ⟩) ↦{fullShare} w) -∗ WP c (k ⟨⟩) Q)
        -∗ WP c (.op (.store (Memref.whole ⟨cs, i, hκ⟩) (Rect.unit off (sig.tyNear .tc cs i).shape.size inb) w Finset.univ hs hm) k) Q) := by
  have hf := Memref.write_access_unit_zero_univ (Elt F) ⟨cs, i, hκ⟩ h inb f w
  iintro H Hk
  iapply (wp_store 𝒱₀ (c : Thread nD τ) none Set.univ (m := Memref.whole ⟨cs, i, hκ⟩) (r := Rect.unit off (sig.tyNear .tc cs i).shape.size inb) (w := w) (Mk := Finset.univ)
    (S := Finset.univ) (f := f) (Finset.subset_univ _)) $$ H
  iintro H
  rw [hf]
  iapply Hk
  iexact H

end Whole

end Steps

end Cert.KProof

end
-- ==== Proof.Gather.lean ====
/-
The first parts of the kernel: the barrier, the quantisation of the device's rows, the gather's transfers and the loads
of the operands.
-/
module

public import proofs.«01_k».proof.Proof.Steps
public import proofs.«01_k».proof.Proof.Contents

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The devices the kernel names -/

theorem dev1 : ∀ c : Dev nD, (⟨k0_dev1 c, k0_dev1_lt c⟩ : Dev nD) = fw c 0 := by decide +kernel
theorem dev2 : ∀ c : Dev nD, (⟨k0_dev2 c, k0_dev2_lt c⟩ : Dev nD) = fw c 1 := by decide +kernel
theorem dev3 : ∀ c : Dev nD, (⟨k0_dev3 c, k0_dev3_lt c⟩ : Dev nD) = fw c 2 := by decide +kernel
theorem dev4 : ∀ c : Dev nD, (⟨k0_dev4 c, k0_dev4_lt c⟩ : Dev nD) = fw c 3 := by decide +kernel
theorem dev5 : ∀ c : Dev nD, (⟨k0_dev5 c, k0_dev5_lt c⟩ : Dev nD) = fw c 4 := by decide +kernel
theorem dev6 : ∀ c : Dev nD, (⟨k0_dev6 c, k0_dev6_lt c⟩ : Dev nD) = fw c 5 := by decide +kernel
theorem dev7 : ∀ c : Dev nD, (⟨k0_dev7 c, k0_dev7_lt c⟩ : Dev nD) = fw c 6 := by decide +kernel
theorem dev8 : ∀ c : Dev nD, (⟨k0_dev8 c, k0_dev8_lt c⟩ : Dev nD) = fw c 0 := by decide +kernel
theorem dev9 : ∀ c : Dev nD, (⟨k0_dev9 c, k0_dev9_lt c⟩ : Dev nD) = fw c 1 := by decide +kernel
theorem dev10 : ∀ c : Dev nD, (⟨k0_dev10 c, k0_dev10_lt c⟩ : Dev nD) = fw c 2 := by decide +kernel
theorem dev11 : ∀ c : Dev nD, (⟨k0_dev11 c, k0_dev11_lt c⟩ : Dev nD) = fw c 3 := by decide +kernel
theorem dev12 : ∀ c : Dev nD, (⟨k0_dev12 c, k0_dev12_lt c⟩ : Dev nD) = fw c 4 := by decide +kernel
theorem dev13 : ∀ c : Dev nD, (⟨k0_dev13 c, k0_dev13_lt c⟩ : Dev nD) = fw c 5 := by decide +kernel
theorem dev14 : ∀ c : Dev nD, (⟨k0_dev14 c, k0_dev14_lt c⟩ : Dev nD) = fw c 6 := by decide +kernel
theorem dev15 : ∀ c : Dev nD, (⟨k0_dev15 c, k0_dev15_lt c⟩ : Dev nD) = bk c 0 := by decide +kernel
theorem dev16 : ∀ c : Dev nD, (⟨k0_dev16 c, k0_dev16_lt c⟩ : Dev nD) = bk c 0 := by decide +kernel
theorem dev17 : ∀ c : Dev nD, (⟨k0_dev17 c, k0_dev17_lt c⟩ : Dev nD) = bk c 1 := by decide +kernel
theorem dev18 : ∀ c : Dev nD, (⟨k0_dev18 c, k0_dev18_lt c⟩ : Dev nD) = bk c 1 := by decide +kernel
theorem dev19 : ∀ c : Dev nD, (⟨k0_dev19 c, k0_dev19_lt c⟩ : Dev nD) = bk c 2 := by decide +kernel
theorem dev20 : ∀ c : Dev nD, (⟨k0_dev20 c, k0_dev20_lt c⟩ : Dev nD) = bk c 2 := by decide +kernel
theorem dev21 : ∀ c : Dev nD, (⟨k0_dev21 c, k0_dev21_lt c⟩ : Dev nD) = bk c 3 := by decide +kernel
theorem dev22 : ∀ c : Dev nD, (⟨k0_dev22 c, k0_dev22_lt c⟩ : Dev nD) = bk c 3 := by decide +kernel
theorem dev23 : ∀ c : Dev nD, (⟨k0_dev23 c, k0_dev23_lt c⟩ : Dev nD) = bk c 4 := by decide +kernel
theorem dev24 : ∀ c : Dev nD, (⟨k0_dev24 c, k0_dev24_lt c⟩ : Dev nD) = bk c 4 := by decide +kernel
theorem dev25 : ∀ c : Dev nD, (⟨k0_dev25 c, k0_dev25_lt c⟩ : Dev nD) = bk c 5 := by decide +kernel
theorem dev26 : ∀ c : Dev nD, (⟨k0_dev26 c, k0_dev26_lt c⟩ : Dev nD) = bk c 5 := by decide +kernel
theorem dev27 : ∀ c : Dev nD, (⟨k0_dev27 c, k0_dev27_lt c⟩ : Dev nD) = bk c 6 := by decide +kernel
theorem dev28 : ∀ c : Dev nD, (⟨k0_dev28 c, k0_dev28_lt c⟩ : Dev nD) = bk c 6 := by decide +kernel

/-! ## The staged operands -/

abbrev a0 : Memref sig .tc .vmem S2x128x512 .bf16 := Memref.whole cc0_stg0_0
abbrev a1 : Memref sig .tc .vmem S512x512 .bf16 := Memref.whole cc0_stg1_0
abbrev a2 : Memref sig .tc .vmem S512x512 .bf16 := Memref.whole cc0_stg2_0
abbrev a3 : Memref sig .tc .vmem S2x128x64x64 .bf16 := Memref.whole cc0_stg3_0
abbrev a4 : Memref sig .tc .vmem S2x128x64x64 .bf16 := Memref.whole cc0_stg4_0
abbrev a5 : Memref sig .tc .vmem S2x128x512 .f32 := Memref.whole cc0_stg5_0
theorem w0 : a0.IsWhole := Memref.isWhole_whole _
theorem w1 : a1.IsWhole := Memref.isWhole_whole _
theorem w2 : a2.IsWhole := Memref.isWhole_whole _
theorem w3 : a3.IsWhole := Memref.isWhole_whole _
theorem w4 : a4.IsWhole := Memref.isWhole_whole _
theorem w5 : a5.IsWhole := Memref.isWhole_whole _
theorem w6 : xiM.IsWhole := Memref.isWhole_whole _
theorem w7 : agM.IsWhole := Memref.isWhole_whole _
theorem w8 : rsM.IsWhole := Memref.isWhole_whole _
theorem w9 : rrM.IsWhole := Memref.isWhole_whole _
theorem w10 : ssM.IsWhole := Memref.isWhole_whole _
theorem w11 : srM.IsWhole := Memref.isWhole_whole _

/-- The whole buffer `b` of device `c` holding `f`. -/
abbrev buf (c : Dev nD) (b : Ref sig .tc) (f : b.ty.Contents (Elt F)) : sProp 𝕄 := ((c : Thread nD τ).loc b) ↦{fullShare} f

theorem slot_lt (i : Fin 7) : i.val < 7 := i.isLt

theorem bigSep_range7 (Φ : ℕ → sProp 𝕄) : bigSep (Finset.range 7) Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]
  rfl

variable (T : Vals F) (c : Dev nD)

/-- The levels of the debts that remain from the `n`-th on are above `l`. -/
theorem above_bar : ∀ x ∈ dl 7, IsDue x ∧ 1 < dueLv x := by decide
theorem above_ag (s : Fin 7) : ∀ x ∈ dl (14 + 2 * s.val), IsDue x ∧ 2 < dueLv x := by revert s; decide
theorem above_end (l : ℕ) : ∀ x ∈ dl 28, IsDue x ∧ l < dueLv x := fun x hx => absurd hx (by rw [show dl 28 = [] from rfl]; exact List.not_mem_nil)

/-! ## The parts of the kernel, in order -/

/-- The first two signals. -/
theorem part1 {Φ} : ⊢ iprop(env T -∗ OW c 0 -∗ tokB c 0 -∗ barPay c 0 (by decide) -∗ tokB c 1 -∗ barPay c 1 (by decide)
    -∗ (∀ v2 v30 u w, OW c 2 -∗ Φ ⟨c, v2, SemArray.scalar (sig.barrier 0 rfl), v30, u, w⟩)
    -∗ WP c (k0_part1 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  rw [k0_part1_eq_skeleton]; unfold k0_part1_skel
  simp only [semSignalWord, Prog.lift, Prog.bind_op, Prog.bind_ret, Prog.pure_eq_ret, wp_deviceId]
  iintro #He HO Ht0 Hp0 Ht1 Hp1 Hk
  iapply (step_signal T c _ 0 _ 0 _ rfl (dev1 c) rfl) $$ He HO Ht0 Hp0
  iintro HO
  iapply (step_signal T c _ 1 _ 1 _ rfl (dev2 c) rfl) $$ He HO Ht1 Hp1
  iintro HO
  iapply step_ret
  iapply Hk $$ HO

/-- The third and fourth signals. -/
theorem part2 {Φ v2 v30 u w} : ⊢ iprop(env T -∗ OW c 2 -∗ tokB c 2 -∗ barPay c 2 (by decide) -∗ tokB c 3 -∗ barPay c 3 (by decide)
    -∗ (∀ v59 v64 v65, OW c 4 -∗ Φ ⟨v59, v64, v65⟩)
    -∗ WP c (k0_part2 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 (SemArray.scalar (sig.barrier 0 rfl)) v30 u w) Φ) := by
  rw [k0_part2_eq_skeleton]; unfold k0_part2_skel
  simp only [semSignalWord, Prog.lift, Prog.bind_op, Prog.bind_ret, Prog.pure_eq_ret]
  iintro #He HO Ht0 Hp0 Ht1 Hp1 Hk
  iapply (step_signal T c _ 2 _ 2 _ rfl (dev3 c) rfl) $$ He HO Ht0 Hp0
  iintro HO
  iapply (step_signal T c _ 3 _ 3 _ rfl (dev4 c) rfl) $$ He HO Ht1 Hp1
  iintro HO
  iapply step_ret
  iapply Hk $$ HO

/-- The last three signals and the wait for the seven others'. -/
theorem part3 {Φ v2 v59 v64 v65} : ⊢ iprop(env T -∗ OW c 4 -∗ tokB c 4 -∗ barPay c 4 (by decide) -∗ tokB c 5 -∗ barPay c 5 (by decide)
    -∗ tokB c 6 -∗ barPay c 6 (by decide) -∗ barWait c
    -∗ (OW c 7 -∗ semVal (barCell c) 0 -∗ barGot T c -∗ Φ ⟨⟩)
    -∗ WP c (k0_part3 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 (SemArray.scalar (sig.barrier 0 rfl)) v59 v64 v65) Φ) := by
  rw [k0_part3_eq_skeleton]; unfold k0_part3_skel
  simp only [semSignalWord, semWaitWord, Prog.lift, Prog.bind_op, Prog.bind_ret, Prog.pure_eq_ret]
  iintro #He HO Ht0 Hp0 Ht1 Hp1 Ht2 Hp2 Hw Hk
  iapply (step_signal T c _ 4 _ 4 _ rfl (dev5 c) rfl) $$ He HO Ht0 Hp0
  iintro HO
  iapply (step_signal T c _ 5 _ 5 _ rfl (dev6 c) rfl) $$ He HO Ht1 Hp1
  iintro HO
  iapply (step_signal T c _ 6 _ 6 _ rfl (dev7 c) rfl) $$ He HO Ht2 Hp2
  iintro HO
  iapply (step_barrier T c 7 _ rfl above_bar) $$ He HO Hw
  iintro ⟨HO, Hz, Hg⟩
  iapply step_ret
  iapply Hk $$ HO Hz Hg

/-- The device's own quantised rows, shared among the seven transfers of the gather, a share kept. -/
theorem xi_share (f : Vec F S2x128x512 .i8) : buf c cc0_scratch0 f ⊢ iprop(xiP c (shareDrop fullShare 7) f ∗ xiP c (shareTokN fullShare 0) f
    ∗ xiP c (shareTokN fullShare 1) f ∗ xiP c (shareTokN fullShare 2) f ∗ xiP c (shareTokN fullShare 3) f ∗ xiP c (shareTokN fullShare 4) f
    ∗ xiP c (shareTokN fullShare 5) f ∗ xiP c (shareTokN fullShare 6) f) := by
  refine ((pointsTo_toks_range fullShare 7).1).trans ?_
  rw [bigSep_range7]
theorem xi_join (f : Vec F S2x128x512 .i8) : iprop(xiP c (shareDrop fullShare 7) f ∗ xiP c (shareTokN fullShare 0) f
    ∗ xiP c (shareTokN fullShare 1) f ∗ xiP c (shareTokN fullShare 2) f ∗ xiP c (shareTokN fullShare 3) f ∗ xiP c (shareTokN fullShare 4) f
    ∗ xiP c (shareTokN fullShare 5) f ∗ xiP c (shareTokN fullShare 6) f) ⊢ buf c cc0_scratch0 f := by
  refine BIBase.Entails.trans ?_ ((pointsTo_toks_range fullShare 7).2)
  rw [bigSep_range7]

/-- What transfer `i` of the gather takes: its tokens, its share of the rows and the slot it writes. -/
def agGo (i : ℕ) (hi : i < 7) : sProp 𝕄 :=
  iprop(tokD c (fw c i) 0 i ∗ xiP c (shareTokN fullShare i) (T.x8 c) ∗ anyX agM (fw c i) i hi)

/-- The quantisation of the device's own rows and the first transfer of the gather. -/
theorem part4 {Φ v2} (x : Vec F S2x128x512 .bf16) (hx : T.x8 c = k0_pay1 x) (f) :
    ⊢ iprop(env T -∗ OW c 7 -∗ buf c cc0_stg0_0 x -∗ buf c cc0_scratch0 f -∗ tokD c (fw c 0) 0 0 -∗ anyX agM (fw c 0) 0 (by decide)
    -∗ (∀ v129, OW c 8 -∗ buf c cc0_stg0_0 x -∗ due c 0 0 -∗ xiP c (shareDrop fullShare 7) (T.x8 c) -∗ xiP c (shareTokN fullShare 1) (T.x8 c)
      -∗ xiP c (shareTokN fullShare 2) (T.x8 c) -∗ xiP c (shareTokN fullShare 3) (T.x8 c) -∗ xiP c (shareTokN fullShare 4) (T.x8 c)
      -∗ xiP c (shareTokN fullShare 5) (T.x8 c) -∗ xiP c (shareTokN fullShare 6) (T.x8 c) -∗ Φ v129)
    -∗ WP c (k0_part4 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2) Φ) := by
  rw [k0_part4_eq_skeleton]; unfold k0_part4_skel
  simp only [Prog.lift, Prog.bind_op, Prog.bind_ret, Prog.pure_eq_ret]
  iintro #He HO Hx Hxi Ht Hd Hk
  iapply (step_load_whole c hz3) $$ Hx
  iintro Hx
  iapply (step_load_whole c hz3) $$ Hxi
  iintro Hxi
  iapply (step_store_whole c hz3) $$ Hxi
  iintro Hxi
  rw [← hx]
  ihave Hs := (xi_share c (T.x8 c)) $$ Hxi
  icases Hs with ⟨Hdrop, Hs0, Hs1, Hs2, Hs3, Hs4, Hs5, Hs6⟩
  iapply (step_ag T c _ 0 _ 7 rfl rfl (dev8 c) rfl) $$ He HO Ht Hs0 Hd
  iintro ⟨HO, Hdue⟩
  iapply step_ret
  iapply Hk $$ HO Hx Hdue Hdrop Hs1 Hs2 Hs3 Hs4 Hs5 Hs6

/-- The gather's transfer 1. -/
theorem part5 {Φ v2 v129} : ⊢ iprop(env T -∗ OW c 8 -∗ agGo T c 1 (by decide) -∗ (OW c 9 -∗ due c 0 1 -∗ Φ ⟨⟩)
    -∗ WP c (k0_part5 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 v129) Φ) := by
  rw [k0_part5_eq_skeleton]; unfold k0_part5_skel agGo
  simp only [Prog.lift, Prog.bind_op, Prog.bind_ret, Prog.pure_eq_ret]
  iintro #He HO ⟨Ht, Hs, Hd⟩ Hk
  iapply (step_ag T c _ 1 _ 8 rfl rfl (dev9 c) rfl) $$ He HO Ht Hs Hd
  iintro ⟨HO, Hdue⟩
  iapply step_ret
  iapply Hk $$ HO Hdue

/-- Transfers 2 and 3. -/
theorem part6 {Φ v2} : ⊢ iprop(env T -∗ OW c 9 -∗ agGo T c 2 (by decide) -∗ agGo T c 3 (by decide)
    -∗ (∀ v189 v194 v195, OW c 11 -∗ due c 0 2 -∗ due c 0 3 -∗ Φ ⟨v189, v194, v195⟩)
    -∗ WP c (k0_part6 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2) Φ) := by
  rw [k0_part6_eq_skeleton]; unfold k0_part6_skel agGo
  simp only [Prog.lift, Prog.bind_op, Prog.bind_ret, Prog.pure_eq_ret]
  iintro #He HO ⟨Ht, Hs, Hd⟩ ⟨Ht', Hs', Hd'⟩ Hk
  iapply (step_ag T c _ 2 _ 9 rfl rfl (dev10 c) rfl) $$ He HO Ht Hs Hd
  iintro ⟨HO, Hdue⟩
  iapply (step_ag T c _ 3 _ 10 rfl rfl (dev11 c) rfl) $$ He HO Ht' Hs' Hd'
  iintro ⟨HO, Hdue'⟩
  iapply step_ret
  iapply Hk $$ HO Hdue Hdue'

/-- Transfers 4 and 5. -/
theorem part7 {Φ v2 v189 v194 v195} : ⊢ iprop(env T -∗ OW c 11 -∗ agGo T c 4 (by decide) -∗ agGo T c 5 (by decide)
    -∗ (∀ v224 v226, OW c 13 -∗ due c 0 4 -∗ due c 0 5 -∗ Φ ⟨v224, v226⟩)
    -∗ WP c (k0_part7 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 v189 v194 v195) Φ) := by
  rw [k0_part7_eq_skeleton]; unfold k0_part7_skel agGo
  simp only [Prog.lift, Prog.bind_op, Prog.bind_ret, Prog.pure_eq_ret]
  iintro #He HO ⟨Ht, Hs, Hd⟩ ⟨Ht', Hs', Hd'⟩ Hk
  iapply (step_ag T c _ 4 _ 11 rfl rfl (dev12 c) rfl) $$ He HO Ht Hs Hd
  iintro ⟨HO, Hdue⟩
  iapply (step_ag T c _ 5 _ 12 rfl rfl (dev13 c) rfl) $$ He HO Ht' Hs' Hd'
  iintro ⟨HO, Hdue'⟩
  iapply step_ret
  iapply Hk $$ HO Hdue Hdue'

/-- The rectangle of the keys and values a device reads: its eight heads. -/
abbrev rK (c : Dev nD) : Rect S2x128x64x64 := Rect.unit (s := S2x128x64x64) (k0_off1 c) S2x128x8x64.size (k0_off1_inb c)
/-- The device's heads of the keys, and of the values. -/
abbrev kAt (f : Vec F S2x128x64x64 .bf16) : Vec F S2x128x8x64 .bf16 := a3.view.readAt (Elt F) (rK c).toLoadRect f
abbrev vAt (f : Vec F S2x128x64x64 .bf16) : Vec F S2x128x8x64 .bf16 := a4.view.readAt (Elt F) (rK c).toLoadRect f

/-- Transfer 6, and the loads of the operands. -/
theorem part8 {Φ v2 v224 v226} (K V : Vec F S2x128x64x64 .bf16) (wq wo : Vec F S512x512 .bf16) :
    ⊢ iprop(env T -∗ OW c 13 -∗ agGo T c 6 (by decide) -∗ buf c cc0_stg3_0 K -∗ buf c cc0_stg4_0 V -∗ buf c cc0_stg1_0 wq -∗ buf c cc0_stg2_0 wo
    -∗ (OW c 14 -∗ due c 0 6 -∗ buf c cc0_stg3_0 K -∗ buf c cc0_stg4_0 V -∗ buf c cc0_stg1_0 wq -∗ buf c cc0_stg2_0 wo
      -∗ Φ ⟨k0_pay2 (kAt c K), k0_pay3 (vAt c V), k0_pay4 wq, k0_pay5 wo, k0_pay6⟩)
    -∗ WP c (k0_part8 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 v224 v226) Φ) := by
  rw [k0_part8_eq_skeleton]; unfold k0_part8_skel agGo
  simp only [Prog.lift, Prog.bind_op, Prog.bind_ret, Prog.pure_eq_ret]
  iintro #He HO ⟨Ht, Hs, Hd⟩ H3 H4 H1 H2 Hk
  iapply (step_ag T c _ 6 _ 13 rfl rfl (dev14 c) rfl) $$ He HO Ht Hs Hd
  iintro ⟨HO, Hdue⟩
  iapply (step_load_part c) $$ H3
  iintro H3
  iapply (step_load_part c) $$ H4
  iintro H4
  iapply (step_load_whole c hz2) $$ H1
  iintro H1
  iapply (step_load_whole c hz2) $$ H2
  iintro H2
  iapply step_ret
  iapply Hk $$ HO Hdue H3 H4 H1 H2

end Cert.KProof

end
-- ==== Proof.Attend.lean ====
/-
The middle parts of the kernel: for each gathered block of rows the partial output is computed, quantised, stored and sent.
-/
module

public import proofs.«01_k».proof.Proof.Gather

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (T : Vals F) (c : Dev nD)

/-- What the device gathered in slot `i`. -/
abbrev gath (i : ℕ) : Vec F S1x2x128x512 .i8 := up (T.x8 (bk c i))

/-- What a scatter of slot `i` takes besides what it sends: the tokens, and the slots it writes on the device `1 + i` places before. -/
def rsGo (i : ℕ) (hi : i < 7) : sProp 𝕄 := iprop(tokD c (bk c i) 2 i ∗ anyX rrM (bk c i) i hi)
def scGo (i : ℕ) (hi : i < 7) : sProp 𝕄 := iprop(tokD c (bk c i) 4 i ∗ anyS srM (bk c i) i hi)

/-- What a wait for gathered rows leaves: its counter at zero and the rows in their slot. -/
def gotAg (i : ℕ) (hi : i < 7) : sProp 𝕄 := iprop(semVal (dcell c 1 i) 0 ∗ atX agM c i hi (gath T c i))

section Parts
variable (k v : FVec F S16x128x64 .bf16) (wq wo : FVec F S512x512 .bf16) (s : FVec F S1x1x1 .bf16)

/-- The own rows' contribution; the first gathered rows. -/
theorem part9 {Φ v2} {q : PosShare TreeShare} : ⊢ iprop(env T -∗ OW c 14 -∗ xiP c q (T.x8 c) -∗ due c 1 0
    -∗ (OW c 14 -∗ xiP c q (T.x8 c) -∗ gotAg T c 0 (by decide) -∗ Φ ⟨k0_pay7 k v wq wo s (T.x8 c), k0_pay8 s (gath T c 0)⟩)
    -∗ WP c (k0_part9 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 k v wq wo s) Φ) := by
  rw [k0_part9_eq_skeleton]; unfold k0_part9_skel
  simp only [Prog.lift, Prog.bind_op, Prog.bind_ret, Prog.pure_eq_ret]
  unfold gotAg
  iintro #He HO Hx Hd Hk
  iapply (step_load_whole c hz3) $$ Hx
  iintro Hx
  iapply (wait_ag T c (i := 0) (by decide) rfl (credit_ag 0 (by decide)) rfl (above_ag 0)) $$ He HO Hd
  iintro ⟨HO, Hz, Ha⟩
  iapply (step_load c) $$ Ha
  iintro Ha
  iapply step_ret
  iapply Hk $$ HO Hx [Hz Ha]
  isplitl [Hz]; · iexact Hz
  iexact Ha

theorem part10 {Φ x} : ⊢ iprop(Φ ⟨k0_pay10 k v wq wo x, k0_pay11 k v wq wo x, k0_pay12⟩ -∗ WP c (k0_part10 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 k v wq wo x) Φ) := by
  rw [k0_part10_eq_skeleton]; unfold k0_part10_skel
  simp only [Prog.lift, Prog.bind_op, Prog.bind_ret, Prog.pure_eq_ret]
  iintro H; iapply step_ret; iexact H

/-- Step 0: the quantised sums and their scale are stored. -/
theorem part11 {Φ v2 u p w} : ⊢ iprop(anyX rsM c 0 (by decide) -∗ anyS ssM c 0 (by decide)
    -∗ (∀ v369, atX rsM c 0 (by decide) (k0_pay13 p w) -∗ atS ssM c 0 (by decide) (k0_pay14 u) -∗ Φ v369)
    -∗ WP c (k0_part11 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 u p w) Φ) := by
  rw [k0_part11_eq_skeleton]; unfold k0_part11_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply (step_store c) $$ Hs
  iintro Hs
  iapply step_ret
  iapply Hk $$ Hr Hs

/-- They are sent; the second gathered rows. -/
theorem part12 {Φ v2 v369} : ⊢ iprop(env T -∗ OW c 14 -∗ rsGo c 0 (by decide) -∗ atX rsM c 0 (by decide) (T.rs c 0)
      -∗ scGo c 0 (by decide) -∗ atS ssM c 0 (by decide) (T.sc c 0) -∗ due c 1 1
    -∗ (OW c 16 -∗ due c 2 0 -∗ due c 4 0 -∗ gotAg T c 1 (by decide) -∗ Φ (k0_pay15 wq s (gath T c 1)))
    -∗ WP c (k0_part12 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 wq s v369) Φ) := by
  rw [k0_part12_eq_skeleton]; unfold k0_part12_skel
  simp only [Prog.lift, Prog.bind_op, Prog.bind_ret, Prog.pure_eq_ret]
  unfold gotAg rsGo scGo
  iintro #He HO ⟨Ht, Hd⟩ Hr ⟨Ht', Hd'⟩ Hs Hw Hk
  iapply (step_rs T c _ 0 _ 14 rfl rfl (dev15 c) rfl) $$ He HO Ht Hr Hd
  iintro ⟨HO, Hdue⟩
  iapply (step_sc T c _ 0 _ 15 rfl rfl (dev16 c) rfl) $$ He HO Ht' Hs Hd'
  iintro ⟨HO, Hdue'⟩
  iapply (wait_ag T c (i := 1) (by decide) rfl (credit_ag 1 (by decide)) rfl (above_ag 1)) $$ He HO Hw
  iintro ⟨HO, Hz, Ha⟩
  iapply (step_load c) $$ Ha
  iintro Ha
  iapply step_ret
  iapply Hk $$ HO Hdue Hdue' [Hz Ha]
  isplitl [Hz]; · iexact Hz
  iexact Ha

theorem part13 {Φ x} : ⊢ iprop(anyX rsM c 1 (by decide) -∗ (anyX rsM c 1 (by decide) -∗ Φ ⟨k0_pay17 k v wo x, k0_pay18 k v wo x⟩)
    -∗ WP c (k0_part13 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 k v wo x) Φ) := by
  rw [k0_part13_eq_skeleton]; unfold k0_part13_skel
  simp only [Prog.lift, Prog.bind_op, Prog.bind_ret, Prog.pure_eq_ret]
  iintro Hr Hk
  iapply (step_load_any c) $$ Hr
  iintro %V Hr
  iapply step_ret
  iapply Hk $$ Hr

/-- Step 1: stored, and the sums sent. -/
theorem part14 {Φ v2 u} (p) (hp : p = T.rs c 1) : ⊢ iprop(env T -∗ OW c 16 -∗ anyX rsM c 1 (by decide) -∗ anyS ssM c 1 (by decide) -∗ rsGo c 1 (by decide)
    -∗ (∀ v471 o, OW c 17 -∗ due c 2 1 -∗ atS ssM c 1 (by decide) (k0_pay19 u) -∗ Φ ⟨v471, o⟩)
    -∗ WP c (k0_part14 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 u p) Φ) := by
  rw [k0_part14_eq_skeleton]; unfold k0_part14_skel
  simp only [Prog.lift, Prog.bind_op, Prog.bind_ret, Prog.pure_eq_ret]
  subst hp
  unfold rsGo
  iintro #He HO Hr Hs ⟨Ht, Hd⟩ Hk
  iapply (step_store c) $$ Hr
  iintro Hr
  iapply (step_load_any c) $$ Hs
  iintro %V' Hs
  iapply (step_store c) $$ Hs
  iintro Hs
  iapply (step_rs T c _ 1 _ 16 rfl rfl (dev17 c) rfl) $$ He HO Ht Hr Hd
  iintro ⟨HO, Hdue⟩
  iapply step_ret
  iapply Hk $$ HO Hdue Hs

/-- The scale sent; the third gathered rows. -/
theorem part15 {Φ v2 v471 o} : ⊢ iprop(env T -∗ OW c 17 -∗ scGo c 1 (by decide) -∗ atS ssM c 1 (by decide) (T.sc c 1) -∗ due c 1 2
    -∗ (OW c 18 -∗ due c 4 1 -∗ gotAg T c 2 (by decide) -∗ Φ ⟨k0_pay21 k wq s (gath T c 2), k0_pay22 k v wq s (gath T c 2)⟩)
    -∗ WP c (k0_part15 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 k v wq s v471 o) Φ) := by
  rw [k0_part15_eq_skeleton]; unfold k0_part15_skel
  simp only [Prog.lift, Prog.bind_op, Prog.bind_ret, Prog.pure_eq_ret]
  unfold gotAg scGo
  iintro #He HO ⟨Ht', Hd'⟩ Hs Hw Hk
  iapply (step_sc T c _ 1 _ 17 rfl rfl (dev18 c) rfl) $$ He HO Ht' Hs Hd'
  iintro ⟨HO, Hdue'⟩
  iapply (wait_ag T c (i := 2) (by decide) rfl (credit_ag 2 (by decide)) rfl (above_ag 2)) $$ He HO Hw
  iintro ⟨HO, Hz, Ha⟩
  iapply (step_load c) $$ Ha
  iintro Ha
  iapply step_ret
  iapply Hk $$ HO Hdue' [Hz Ha]
  isplitl [Hz]; · iexact Hz
  iexact Ha

/-- Step 2: the sums stored. -/
theorem part16 {Φ x y} : ⊢ iprop(anyX rsM c 2 (by decide) -∗ anyS ssM c 2 (by decide)
    -∗ (atX rsM c 2 (by decide) (k0_pay25 wo x y) -∗ anyS ssM c 2 (by decide) -∗ Φ (k0_pay26 wo x y))
    -∗ WP c (k0_part16 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 wo x y) Φ) := by
  rw [k0_part16_eq_skeleton]; unfold k0_part16_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply step_ret
  iapply Hk $$ Hr Hs

theorem part17 {Φ v2 u} : ⊢ iprop(env T -∗ OW c 18 -∗ atX rsM c 2 (by decide) (T.rs c 2) -∗ anyS ssM c 2 (by decide) -∗ rsGo c 2 (by decide)
    -∗ (OW c 19 -∗ due c 2 2 -∗ atS ssM c 2 (by decide) (k0_pay27 u) -∗ Φ ⟨⟩)
    -∗ WP c (k0_part17 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 u) Φ) := by
  rw [k0_part17_eq_skeleton]; unfold k0_part17_skel
  simp only [Prog.lift, Prog.bind_op, Prog.bind_ret, Prog.pure_eq_ret]
  unfold rsGo
  iintro #He HO Hr Hs ⟨Ht, Hd⟩ Hk
  iapply (step_store c) $$ Hs
  iintro Hs
  iapply (step_rs T c _ 2 _ 18 rfl rfl (dev19 c) rfl) $$ He HO Ht Hr Hd
  iintro ⟨HO, Hdue⟩
  iapply step_ret
  iapply Hk $$ HO Hdue Hs

theorem part18 {Φ v2} : ⊢ iprop(env T -∗ OW c 19 -∗ scGo c 2 (by decide) -∗ atS ssM c 2 (by decide) (T.sc c 2) -∗ due c 1 3
    -∗ (OW c 20 -∗ due c 4 2 -∗ gotAg T c 3 (by decide) -∗ Φ ⟨k0_pay28 k v wq s (gath T c 3), zz⟩)
    -∗ WP c (k0_part18 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 k v wq s) Φ) := by
  rw [k0_part18_eq_skeleton]; unfold k0_part18_skel
  simp only [Prog.lift, Prog.bind_op, Prog.bind_ret, Prog.pure_eq_ret]
  unfold gotAg scGo
  iintro #He HO ⟨Ht', Hd'⟩ Hs Hw Hk
  iapply (step_sc T c _ 2 _ 19 rfl rfl (dev20 c) rfl) $$ He HO Ht' Hs Hd'
  iintro ⟨HO, Hdue'⟩
  iapply (wait_ag T c (i := 3) (by decide) rfl (credit_ag 3 (by decide)) rfl (above_ag 3)) $$ He HO Hw
  iintro ⟨HO, Hz, Ha⟩
  iapply (step_load c) $$ Ha
  iintro Ha
  iapply step_ret
  iapply Hk $$ HO Hdue' [Hz Ha]
  isplitl [Hz]; · iexact Hz
  iexact Ha

/-- Step 3: stored. -/
theorem part19 {Φ v2 x z} : ⊢ iprop(anyX rsM c 3 (by decide) -∗ anyS ssM c 3 (by decide)
    -∗ (∀ v665 u w o, atX rsM c 3 (by decide) (k0_pay31 wo x z) -∗ atS ssM c 3 (by decide) (k0_pay32 wo x z) -∗ Φ ⟨v665, u, w, o⟩)
    -∗ WP c (k0_part19 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 wo x z) Φ) := by
  rw [k0_part19_eq_skeleton]; unfold k0_part19_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply (step_store c) $$ Hs
  iintro Hs
  iapply step_ret
  iapply Hk $$ Hr Hs

theorem part20 {Φ v665 u w o} : ⊢ iprop(env T -∗ OW c 20 -∗ rsGo c 3 (by decide) -∗ atX rsM c 3 (by decide) (T.rs c 3)
      -∗ scGo c 3 (by decide) -∗ atS ssM c 3 (by decide) (T.sc c 3)
    -∗ (∀ o, OW c 22 -∗ due c 2 3 -∗ due c 4 3 -∗ Φ o)
    -∗ WP c (k0_part20 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v665 u w o) Φ) := by
  rw [k0_part20_eq_skeleton]; unfold k0_part20_skel
  simp only [Prog.lift, Prog.bind_op, Prog.bind_ret, Prog.pure_eq_ret]
  unfold rsGo scGo
  iintro #He HO ⟨Ht, Hd⟩ Hr ⟨Ht', Hd'⟩ Hs Hk
  iapply (step_rs T c _ 3 _ 20 rfl rfl (dev21 c) rfl) $$ He HO Ht Hr Hd
  iintro ⟨HO, Hdue⟩
  iapply (step_sc T c _ 3 _ 21 rfl rfl (dev22 c) rfl) $$ He HO Ht' Hs Hd'
  iintro ⟨HO, Hdue'⟩
  iapply step_ret
  iapply Hk $$ HO Hdue Hdue'

theorem part21 {Φ v2 o} : ⊢ iprop(env T -∗ OW c 22 -∗ due c 1 4
    -∗ (OW c 22 -∗ gotAg T c 4 (by decide) -∗ Φ ⟨k0_pay33 k v wq wo s (gath T c 4), k0_pay34 k v wq wo s (gath T c 4)⟩)
    -∗ WP c (k0_part21 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 k v wq wo s o) Φ) := by
  rw [k0_part21_eq_skeleton]; unfold k0_part21_skel
  simp only [Prog.lift, Prog.bind_op, Prog.bind_ret, Prog.pure_eq_ret]
  unfold gotAg
  iintro #He HO Hw Hk
  iapply (wait_ag T c (i := 4) (by decide) rfl (credit_ag 4 (by decide)) rfl (above_ag 4)) $$ He HO Hw
  iintro ⟨HO, Hz, Ha⟩
  iapply (step_load c) $$ Ha
  iintro Ha
  iapply step_ret
  iapply Hk $$ HO [Hz Ha]
  isplitl [Hz]; · iexact Hz
  iexact Ha

/-- Step 4: stored. -/
theorem part22 {Φ v2 p u} : ⊢ iprop(anyX rsM c 4 (by decide) -∗ anyS ssM c 4 (by decide)
    -∗ (∀ v769 v770 v775, atX rsM c 4 (by decide) (k0_pay36 p u) -∗ atS ssM c 4 (by decide) (k0_pay37 u) -∗ Φ ⟨v769, v770, v775⟩)
    -∗ WP c (k0_part22 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 p u) Φ) := by
  rw [k0_part22_eq_skeleton]; unfold k0_part22_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply (step_store c) $$ Hs
  iintro Hs
  iapply step_ret
  iapply Hk $$ Hr Hs

theorem part23 {Φ v2 v769 v770 v775} : ⊢ iprop(env T -∗ OW c 22 -∗ rsGo c 4 (by decide) -∗ atX rsM c 4 (by decide) (T.rs c 4)
      -∗ scGo c 4 (by decide) -∗ atS ssM c 4 (by decide) (T.sc c 4)
    -∗ (OW c 24 -∗ due c 2 4 -∗ due c 4 4 -∗ Φ ⟨⟩)
    -∗ WP c (k0_part23 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 v769 v770 v775) Φ) := by
  rw [k0_part23_eq_skeleton]; unfold k0_part23_skel
  simp only [Prog.lift, Prog.bind_op, Prog.bind_ret, Prog.pure_eq_ret]
  unfold rsGo scGo
  iintro #He HO ⟨Ht, Hd⟩ Hr ⟨Ht', Hd'⟩ Hs Hk
  iapply (step_rs T c _ 4 _ 22 rfl rfl (dev23 c) rfl) $$ He HO Ht Hr Hd
  iintro ⟨HO, Hdue⟩
  iapply (step_sc T c _ 4 _ 23 rfl rfl (dev24 c) rfl) $$ He HO Ht' Hs Hd'
  iintro ⟨HO, Hdue'⟩
  iapply step_ret
  iapply Hk $$ HO Hdue Hdue'

theorem part24 {Φ} : ⊢ iprop(env T -∗ OW c 24 -∗ due c 1 5
    -∗ (OW c 24 -∗ gotAg T c 5 (by decide)
      -∗ Φ ⟨k0_pay38 k v wq wo s (gath T c 5), k0_pay39 k v wq wo s (gath T c 5), k0_pay40 k v wq wo s (gath T c 5)⟩)
    -∗ WP c (k0_part24 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 k v wq wo s) Φ) := by
  rw [k0_part24_eq_skeleton]; unfold k0_part24_skel
  simp only [Prog.lift, Prog.bind_op, Prog.bind_ret, Prog.pure_eq_ret]
  unfold gotAg
  iintro #He HO Hw Hk
  iapply (wait_ag T c (i := 5) (by decide) rfl (credit_ag 5 (by decide)) rfl (above_ag 5)) $$ He HO Hw
  iintro ⟨HO, Hz, Ha⟩
  iapply (step_load c) $$ Ha
  iintro Ha
  iapply step_ret
  iapply Hk $$ HO [Hz Ha]
  isplitl [Hz]; · iexact Hz
  iexact Ha

/-- Step 5: stored. -/
theorem part25 {Φ v2 p u w} : ⊢ iprop(anyX rsM c 5 (by decide) -∗ anyS ssM c 5 (by decide)
    -∗ (∀ v879, atX rsM c 5 (by decide) (k0_pay41 p w) -∗ atS ssM c 5 (by decide) (k0_pay42 u) -∗ Φ v879)
    -∗ WP c (k0_part25 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 p u w) Φ) := by
  rw [k0_part25_eq_skeleton]; unfold k0_part25_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply (step_store c) $$ Hs
  iintro Hs
  iapply step_ret
  iapply Hk $$ Hr Hs

theorem part26 {Φ v2 v879} : ⊢ iprop(env T -∗ OW c 24 -∗ rsGo c 5 (by decide) -∗ atX rsM c 5 (by decide) (T.rs c 5)
      -∗ scGo c 5 (by decide) -∗ atS ssM c 5 (by decide) (T.sc c 5) -∗ due c 1 6
    -∗ (OW c 26 -∗ due c 2 5 -∗ due c 4 5 -∗ gotAg T c 6 (by decide) -∗ Φ (k0_pay43 s (gath T c 6)))
    -∗ WP c (k0_part26 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 s v879) Φ) := by
  rw [k0_part26_eq_skeleton]; unfold k0_part26_skel
  simp only [Prog.lift, Prog.bind_op, Prog.bind_ret, Prog.pure_eq_ret]
  unfold gotAg rsGo scGo
  iintro #He HO ⟨Ht, Hd⟩ Hr ⟨Ht', Hd'⟩ Hs Hw Hk
  iapply (step_rs T c _ 5 _ 24 rfl rfl (dev25 c) rfl) $$ He HO Ht Hr Hd
  iintro ⟨HO, Hdue⟩
  iapply (step_sc T c _ 5 _ 25 rfl rfl (dev26 c) rfl) $$ He HO Ht' Hs Hd'
  iintro ⟨HO, Hdue'⟩
  iapply (wait_ag T c (i := 6) (by decide) rfl (credit_ag 6 (by decide)) rfl (above_ag 6)) $$ He HO Hw
  iintro ⟨HO, Hz, Ha⟩
  iapply (step_load c) $$ Ha
  iintro Ha
  iapply step_ret
  iapply Hk $$ HO Hdue Hdue' [Hz Ha]
  isplitl [Hz]; · iexact Hz
  iexact Ha

theorem part27 {Φ x} : ⊢ iprop(Φ ⟨k0_pay45 k v wq wo x, k0_pay46 k v wq wo x, k0_pay47⟩ -∗ WP c (k0_part27 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 k v wq wo x) Φ) := by
  rw [k0_part27_eq_skeleton]; unfold k0_part27_skel
  simp only [Prog.lift, Prog.bind_op, Prog.bind_ret, Prog.pure_eq_ret]
  iintro H; iapply step_ret; iexact H

/-- Step 6: stored. -/
theorem part28 {Φ v2 u p w} : ⊢ iprop(anyX rsM c 6 (by decide) -∗ anyS ssM c 6 (by decide)
    -∗ (∀ v981, atX rsM c 6 (by decide) (k0_pay48 p w) -∗ atS ssM c 6 (by decide) (k0_pay49 u) -∗ Φ v981)
    -∗ WP c (k0_part28 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 u p w) Φ) := by
  rw [k0_part28_eq_skeleton]; unfold k0_part28_skel
  simp only [Prog.lift, Prog.bind_op, Prog.bind_ret, Prog.pure_eq_ret]
  iintro Hr Hs Hk
  iapply (step_load_any c) $$ Hr
  iintro %V Hr
  iapply (step_store c) $$ Hr
  iintro Hr
  iapply (step_load_any c) $$ Hs
  iintro %V' Hs
  iapply (step_store c) $$ Hs
  iintro Hs
  iapply step_ret
  iapply Hk $$ Hr Hs

end Parts

end Cert.KProof

end
-- ==== Proof.Collect.lean ====
/-
The last parts of the kernel: the received partial sums are awaited, dequantised and added, the result is stored, and the
departures are awaited.
-/
module

public import proofs.«01_k».proof.Proof.Attend

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (T : Vals F) (c : Dev nD)

/-- What a wait for a received sum leaves, and for its scale: the counter at zero, the slot with what was received. -/
def gotRr (i : ℕ) (hi : i < 7) : sProp 𝕄 := iprop(semVal (dcell c 3 i) 0 ∗ atX rrM c i hi (T.rs (fw c i) i))
def gotSr (i : ℕ) (hi : i < 7) : sProp 𝕄 := iprop(semVal (dcell c 5 i) 0 ∗ atS srM c i hi (T.sc (fw c i) i))
/-- What the waits for the departures leave: the counter at zero, what was sent. -/
def gotXi (i : ℕ) : sProp 𝕄 := iprop(semVal (dcell c 0 i) 0 ∗ xiP c (shareTokN fullShare i) (T.x8 c))
def gotRs (i : ℕ) (hi : i < 7) : sProp 𝕄 := iprop(semVal (dcell c 2 i) 0 ∗ anyX rsM c i hi)
def gotSs (i : ℕ) (hi : i < 7) : sProp 𝕄 := iprop(semVal (dcell c 4 i) 0 ∗ anyS ssM c i hi)

/-- What the device received in slot `i`: the quantised sum and the scale. -/
abbrev rec (i : ℕ) : Vec F S1x2x128x512 .i8 := T.rs (fw c i) i
abbrev scl (i : ℕ) : Vec F S1x8x128 .f32 := T.sc (fw c i) i

/-- A received sum awaited, and what the rest of the kernel does with it. -/
theorem take_rr {α : Type} {i : ℕ} (hi : i < 7) {sem : DmaSem sig} (hsem : sem = dsem 3 i) {src dst : Memref sig .tc .vmem S2x128x512 .i8}
    {hsrc : src.view.WordExact} {hdst : dst.view.WordExact} (hN : dst.view.dmaCredit = NX) (hlv : lvS (.dma (dsem 3 i)) = 3)
    {K : PUnit → Prog (TpuEff nD τ sig (Elt F) Λ₀ .tc) α} {Q : α → sProp 𝕄} :
    ⊢ iprop(env T -∗ OW c 28 -∗ due c 3 i -∗ (OW c 28 -∗ gotRr T c i hi -∗ WP c (K ⟨⟩) Q) -∗ WP c (.op (.waitDma2 sem src dst hsrc hdst) K) Q) := by
  unfold gotRr
  iintro #He HO Hd Hk
  iapply (wait_rr T c hi hsem hN hlv (above_end 3)) $$ He HO Hd
  iintro ⟨HO, Hz, Hr⟩
  iapply Hk $$ HO [Hz Hr]
  isplitl [Hz]; · iexact Hz
  iexact Hr
theorem take_sr {α : Type} {i : ℕ} (hi : i < 7) {sem : DmaSem sig} (hsem : sem = dsem 5 i) {src dst : Memref sig .tc .vmem S8x128 .f32}
    {hsrc : src.view.WordExact} {hdst : dst.view.WordExact} (hN : dst.view.dmaCredit = NS) (hlv : lvS (.dma (dsem 5 i)) = 3)
    {K : PUnit → Prog (TpuEff nD τ sig (Elt F) Λ₀ .tc) α} {Q : α → sProp 𝕄} :
    ⊢ iprop(env T -∗ OW c 28 -∗ due c 5 i -∗ (OW c 28 -∗ gotSr T c i hi -∗ WP c (K ⟨⟩) Q) -∗ WP c (.op (.waitDma2 sem src dst hsrc hdst) K) Q) := by
  unfold gotSr
  iintro #He HO Hd Hk
  iapply (wait_sr T c hi hsem hN hlv (above_end 3)) $$ He HO Hd
  iintro ⟨HO, Hz, Hr⟩
  iapply Hk $$ HO [Hz Hr]
  isplitl [Hz]; · iexact Hz
  iexact Hr
theorem take_xi {α : Type} {i : ℕ} (hi : i < 7) {sem : DmaSem sig} (hsem : sem = dsem 0 i) {src dst : Memref sig .tc .vmem S2x128x512 .i8}
    {hsrc : src.view.WordExact} {hdst : dst.view.WordExact} (hN : dst.view.dmaCredit = NX) (hlv : lvS (.dma (dsem 0 i)) = 0)
    {K : PUnit → Prog (TpuEff nD τ sig (Elt F) Λ₀ .tc) α} {Q : α → sProp 𝕄} :
    ⊢ iprop(env T -∗ OW c 28 -∗ due c 0 i -∗ (OW c 28 -∗ gotXi T c i -∗ WP c (K ⟨⟩) Q) -∗ WP c (.op (.waitDma2 sem src dst hsrc hdst) K) Q) := by
  unfold gotXi
  iintro #He HO Hd Hk
  iapply (wait_xi T c hi hsem hN hlv (above_end 0)) $$ He HO Hd
  iintro ⟨HO, Hz, Hr⟩
  iapply Hk $$ HO [Hz Hr]
  isplitl [Hz]; · iexact Hz
  iexact Hr
theorem take_rs {α : Type} {i : ℕ} (hi : i < 7) {sem : DmaSem sig} (hsem : sem = dsem 2 i) {src dst : Memref sig .tc .vmem S2x128x512 .i8}
    {hsrc : src.view.WordExact} {hdst : dst.view.WordExact} (hN : dst.view.dmaCredit = NX) (hlv : lvS (.dma (dsem 2 i)) = 0)
    {K : PUnit → Prog (TpuEff nD τ sig (Elt F) Λ₀ .tc) α} {Q : α → sProp 𝕄} :
    ⊢ iprop(env T -∗ OW c 28 -∗ due c 2 i -∗ (OW c 28 -∗ gotRs c i hi -∗ WP c (K ⟨⟩) Q) -∗ WP c (.op (.waitDma2 sem src dst hsrc hdst) K) Q) := by
  unfold gotRs
  iintro #He HO Hd Hk
  iapply (wait_rs T c hi hsem hN hlv (above_end 0)) $$ He HO Hd
  iintro ⟨HO, Hz, Hr⟩
  iapply Hk $$ HO [Hz Hr]
  isplitl [Hz]; · iexact Hz
  iexact Hr
theorem take_ss {α : Type} {i : ℕ} (hi : i < 7) {sem : DmaSem sig} (hsem : sem = dsem 4 i) {src dst : Memref sig .tc .vmem S8x128 .f32}
    {hsrc : src.view.WordExact} {hdst : dst.view.WordExact} (hN : dst.view.dmaCredit = NS) (hlv : lvS (.dma (dsem 4 i)) = 0)
    {K : PUnit → Prog (TpuEff nD τ sig (Elt F) Λ₀ .tc) α} {Q : α → sProp 𝕄} :
    ⊢ iprop(env T -∗ OW c 28 -∗ due c 4 i -∗ (OW c 28 -∗ gotSs c i hi -∗ WP c (K ⟨⟩) Q) -∗ WP c (.op (.waitDma2 sem src dst hsrc hdst) K) Q) := by
  unfold gotSs
  iintro #He HO Hd Hk
  iapply (wait_ss T c hi hsem hN hlv (above_end 0)) $$ He HO Hd
  iintro ⟨HO, Hz, Hr⟩
  iapply Hk $$ HO [Hz Hr]
  isplitl [Hz]; · iexact Hz
  iexact Hr

/-- Loads of received slots. -/
theorem read_rr {α : Type} {i : ℕ} {hi : i < 7} {hl : rrM.view.LoadsAt (rX i hi).toLoadRect}
    {K : (Vec F S1x2x128x512 .i8) → Prog (TpuEff nD τ sig (Elt F) Λ₀ .tc) α} {Q : α → sProp 𝕄} :
    ⊢ iprop(gotRr T c i hi -∗ (gotRr T c i hi -∗ WP c (K (rec T c i)) Q) -∗ WP c (.op (.load rrM (rX i hi).toLoadRect hl) K) Q) := by
  unfold gotRr
  iintro ⟨Hz, Hr⟩ Hk
  iapply (step_load c) $$ Hr
  iintro Hr
  iapply Hk
  isplitl [Hz]; · iexact Hz
  iexact Hr
theorem read_sr {α : Type} {i : ℕ} {hi : i < 7} {hl : srM.view.LoadsAt (rS i hi).toLoadRect}
    {K : (Vec F S1x8x128 .f32) → Prog (TpuEff nD τ sig (Elt F) Λ₀ .tc) α} {Q : α → sProp 𝕄} :
    ⊢ iprop(gotSr T c i hi -∗ (gotSr T c i hi -∗ WP c (K (scl T c i)) Q) -∗ WP c (.op (.load srM (rS i hi).toLoadRect hl) K) Q) := by
  unfold gotSr
  iintro ⟨Hz, Hr⟩ Hk
  iapply (step_load c) $$ Hr
  iintro Hr
  iapply Hk
  isplitl [Hz]; · iexact Hz
  iexact Hr

section Parts
variable (acc : FVec F S256x512 .f32)

/-- Step 6 is sent; the first received sum is awaited. -/
theorem part29 {Φ v2 v981} : ⊢ iprop(env T -∗ OW c 26 -∗ rsGo c 6 (by decide) -∗ atX rsM c 6 (by decide) (T.rs c 6)
      -∗ scGo c 6 (by decide) -∗ atS ssM c 6 (by decide) (T.sc c 6) -∗ due c 3 0
    -∗ (OW c 28 -∗ due c 2 6 -∗ due c 4 6 -∗ gotRr T c 0 (by decide) -∗ Φ ⟨⟩)
    -∗ WP c (k0_part29 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 c v2 v981) Φ) := by
  rw [k0_part29_eq_skeleton]; unfold k0_part29_skel
  simp only [Prog.lift, Prog.bind_op, Prog.bind_ret, Prog.pure_eq_ret]
  unfold rsGo scGo
  iintro #He HO ⟨Ht, Hd⟩ Hr ⟨Ht', Hd'⟩ Hs Hw Hk
  iapply (step_rs T c _ 6 _ 26 rfl rfl (dev27 c) rfl) $$ He HO Ht Hr Hd
  iintro ⟨HO, Hdue⟩
  iapply (step_sc T c _ 6 _ 27 rfl rfl (dev28 c) rfl) $$ He HO Ht' Hs Hd'
  iintro ⟨HO, Hdue'⟩
  iapply (take_rr T c (i := 0) (by decide) rfl (credit_rr 0 (by decide)) rfl) $$ He HO Hw
  iintro HO Hg
  iapply step_ret
  iapply Hk $$ HO Hdue Hdue' Hg

/-- The received sums are awaited, dequantised and added. -/
theorem part30 {Φ v2} : ⊢ iprop(env T -∗ OW c 28 -∗ gotRr T c 0 (by decide) -∗ due c 5 0 -∗ due c 3 1
    -∗ (OW c 28 -∗ gotRr T c 0 (by decide) -∗ gotSr T c 0 (by decide) -∗ gotRr T c 1 (by decide) -∗ Φ (k0_pay50 acc (scl T c 0) (rec T c 0)))
    -∗ WP c (k0_part30 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc) Φ) := by
  rw [k0_part30_eq_skeleton]; unfold k0_part30_skel
  simp only [Prog.lift, Prog.bind_op, Prog.bind_ret, Prog.pure_eq_ret]
  iintro #He HO Hr0 Hd Hd' Hk
  iapply (take_sr T c (i := 0) (by decide) rfl (credit_sr 0 (by decide)) rfl) $$ He HO Hd
  iintro HO Hs
  iapply (read_sr T c) $$ Hs
  iintro Hs
  iapply (read_rr T c) $$ Hr0
  iintro Hr0
  iapply (take_rr T c (i := 1) (by decide) rfl (credit_rr 1 (by decide)) rfl) $$ He HO Hd'
  iintro HO Hr1
  iapply step_ret
  iapply Hk $$ HO Hr0 Hs Hr1

theorem part31 {Φ v2} : ⊢ iprop(env T -∗ OW c 28 -∗ gotRr T c 1 (by decide) -∗ due c 5 1 -∗ due c 3 2
    -∗ (OW c 28 -∗ gotRr T c 1 (by decide) -∗ gotSr T c 1 (by decide) -∗ gotRr T c 2 (by decide) -∗ Φ (k0_pay51 acc (scl T c 1) (rec T c 1)))
    -∗ WP c (k0_part31 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc) Φ) := by
  rw [k0_part31_eq_skeleton]; unfold k0_part31_skel
  simp only [Prog.lift, Prog.bind_op, Prog.bind_ret, Prog.pure_eq_ret]
  iintro #He HO Hr0 Hd Hd' Hk
  iapply (take_sr T c (i := 1) (by decide) rfl (credit_sr 1 (by decide)) rfl) $$ He HO Hd
  iintro HO Hs
  iapply (read_sr T c) $$ Hs
  iintro Hs
  iapply (read_rr T c) $$ Hr0
  iintro Hr0
  iapply (take_rr T c (i := 2) (by decide) rfl (credit_rr 2 (by decide)) rfl) $$ He HO Hd'
  iintro HO Hr1
  iapply step_ret
  iapply Hk $$ HO Hr0 Hs Hr1

theorem part32 {Φ v2} : ⊢ iprop(env T -∗ OW c 28 -∗ gotRr T c 2 (by decide) -∗ due c 5 2 -∗ due c 3 3 -∗ due c 5 3
    -∗ (OW c 28 -∗ gotRr T c 2 (by decide) -∗ gotSr T c 2 (by decide) -∗ gotRr T c 3 (by decide) -∗ gotSr T c 3 (by decide)
      -∗ Φ (k0_pay52 acc (scl T c 2) (rec T c 2)))
    -∗ WP c (k0_part32 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc) Φ) := by
  rw [k0_part32_eq_skeleton]; unfold k0_part32_skel
  simp only [Prog.lift, Prog.bind_op, Prog.bind_ret, Prog.pure_eq_ret]
  iintro #He HO Hr0 Hd Hd' Hd'' Hk
  iapply (take_sr T c (i := 2) (by decide) rfl (credit_sr 2 (by decide)) rfl) $$ He HO Hd
  iintro HO Hs
  iapply (read_sr T c) $$ Hs
  iintro Hs
  iapply (read_rr T c) $$ Hr0
  iintro Hr0
  iapply (take_rr T c (i := 3) (by decide) rfl (credit_rr 3 (by decide)) rfl) $$ He HO Hd'
  iintro HO Hr1
  iapply (take_sr T c (i := 3) (by decide) rfl (credit_sr 3 (by decide)) rfl) $$ He HO Hd''
  iintro HO Hs1
  iapply step_ret
  iapply Hk $$ HO Hr0 Hs Hr1 Hs1

theorem part33 {Φ v2} : ⊢ iprop(env T -∗ OW c 28 -∗ gotRr T c 3 (by decide) -∗ gotSr T c 3 (by decide) -∗ due c 3 4 -∗ due c 5 4
    -∗ (OW c 28 -∗ gotRr T c 3 (by decide) -∗ gotSr T c 3 (by decide) -∗ gotRr T c 4 (by decide) -∗ gotSr T c 4 (by decide)
      -∗ Φ (k0_pay53 acc (scl T c 3) (rec T c 3)))
    -∗ WP c (k0_part33 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc) Φ) := by
  rw [k0_part33_eq_skeleton]; unfold k0_part33_skel
  simp only [Prog.lift, Prog.bind_op, Prog.bind_ret, Prog.pure_eq_ret]
  iintro #He HO Hr0 Hs Hd' Hd'' Hk
  iapply (read_sr T c) $$ Hs
  iintro Hs
  iapply (read_rr T c) $$ Hr0
  iintro Hr0
  iapply (take_rr T c (i := 4) (by decide) rfl (credit_rr 4 (by decide)) rfl) $$ He HO Hd'
  iintro HO Hr1
  iapply (take_sr T c (i := 4) (by decide) rfl (credit_sr 4 (by decide)) rfl) $$ He HO Hd''
  iintro HO Hs1
  iapply step_ret
  iapply Hk $$ HO Hr0 Hs Hr1 Hs1

theorem part34 {Φ v2} : ⊢ iprop(env T -∗ OW c 28 -∗ gotRr T c 4 (by decide) -∗ gotSr T c 4 (by decide) -∗ due c 3 5 -∗ due c 5 5
    -∗ (OW c 28 -∗ gotRr T c 4 (by decide) -∗ gotSr T c 4 (by decide) -∗ gotRr T c 5 (by decide) -∗ gotSr T c 5 (by decide)
      -∗ Φ ⟨k0_pay54 acc (scl T c 4) (rec T c 4), scl T c 5⟩)
    -∗ WP c (k0_part34 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc) Φ) := by
  rw [k0_part34_eq_skeleton]; unfold k0_part34_skel
  simp only [Prog.lift, Prog.bind_op, Prog.bind_ret, Prog.pure_eq_ret]
  iintro #He HO Hr0 Hs Hd' Hd'' Hk
  iapply (read_sr T c) $$ Hs
  iintro Hs
  iapply (read_rr T c) $$ Hr0
  iintro Hr0
  iapply (take_rr T c (i := 5) (by decide) rfl (credit_rr 5 (by decide)) rfl) $$ He HO Hd'
  iintro HO Hr1
  iapply (take_sr T c (i := 5) (by decide) rfl (credit_sr 5 (by decide)) rfl) $$ He HO Hd''
  iintro HO Hs1
  iapply (read_sr T c) $$ Hs1
  iintro Hs1
  iapply step_ret
  iapply Hk $$ HO Hr0 Hs Hr1 Hs1

theorem part35 {Φ v2 u} : ⊢ iprop(env T -∗ OW c 28 -∗ gotRr T c 5 (by decide) -∗ due c 3 6 -∗ due c 5 6
    -∗ (OW c 28 -∗ gotRr T c 5 (by decide) -∗ gotRr T c 6 (by decide) -∗ gotSr T c 6 (by decide)
      -∗ Φ ⟨k0_pay55 acc u (rec T c 5), k0_pay56 (scl T c 6)⟩)
    -∗ WP c (k0_part35 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 v2 acc u) Φ) := by
  rw [k0_part35_eq_skeleton]; unfold k0_part35_skel
  simp only [Prog.lift, Prog.bind_op, Prog.bind_ret, Prog.pure_eq_ret]
  iintro #He HO Hr0 Hd' Hd'' Hk
  iapply (read_rr T c) $$ Hr0
  iintro Hr0
  iapply (take_rr T c (i := 6) (by decide) rfl (credit_rr 6 (by decide)) rfl) $$ He HO Hd'
  iintro HO Hr1
  iapply (take_sr T c (i := 6) (by decide) rfl (credit_sr 6 (by decide)) rfl) $$ He HO Hd''
  iintro HO Hs1
  iapply (read_sr T c) $$ Hs1
  iintro Hs1
  iapply step_ret
  iapply Hk $$ HO Hr0 Hr1 Hs1

/-- The last sum is added and the result stored; the departures are awaited, from here on. -/
theorem part36 {Φ u f} : ⊢ iprop(env T -∗ OW c 28 -∗ gotRr T c 6 (by decide) -∗ buf c cc0_stg5_0 f -∗ due c 0 0 -∗ due c 0 1 -∗ due c 0 2
    -∗ (OW c 28 -∗ gotRr T c 6 (by decide) -∗ buf c cc0_stg5_0 (k0_pay57 acc u (rec T c 6)) -∗ gotXi T c 0 -∗ gotXi T c 1 -∗ gotXi T c 2 -∗ Φ ⟨⟩)
    -∗ WP c (k0_part36 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11 acc u) Φ) := by
  rw [k0_part36_eq_skeleton]; unfold k0_part36_skel
  simp only [Prog.lift, Prog.bind_op, Prog.bind_ret, Prog.pure_eq_ret]
  iintro #He HO Hr0 Ho H0 H1 H2 Hk
  iapply (read_rr T c) $$ Hr0
  iintro Hr0
  iapply (step_load_whole c hz3) $$ Ho
  iintro Ho
  iapply (step_store_whole c hz3) $$ Ho
  iintro Ho
  iapply (take_xi T c (i := 0) (by decide) rfl credit_xi rfl) $$ He HO H0
  iintro HO H0
  iapply (take_xi T c (i := 1) (by decide) rfl credit_xi rfl) $$ He HO H1
  iintro HO H1
  iapply (take_xi T c (i := 2) (by decide) rfl credit_xi rfl) $$ He HO H2
  iintro HO H2
  iapply step_ret
  iapply Hk $$ HO Hr0 Ho H0 H1 H2

theorem part37 {Φ} : ⊢ iprop(env T -∗ OW c 28 -∗ due c 0 3 -∗ due c 0 4 -∗ due c 0 5 -∗ due c 0 6 -∗ due c 2 0
    -∗ (OW c 28 -∗ gotXi T c 3 -∗ gotXi T c 4 -∗ gotXi T c 5 -∗ gotXi T c 6 -∗ gotRs c 0 (by decide) -∗ Φ ⟨⟩)
    -∗ WP c (k0_part37 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  rw [k0_part37_eq_skeleton]; unfold k0_part37_skel
  simp only [Prog.lift, Prog.bind_op, Prog.bind_ret, Prog.pure_eq_ret]
  iintro #He HO H3 H4 H5 H6 H0 Hk
  iapply (take_xi T c (i := 3) (by decide) rfl credit_xi rfl) $$ He HO H3
  iintro HO H3
  iapply (take_xi T c (i := 4) (by decide) rfl credit_xi rfl) $$ He HO H4
  iintro HO H4
  iapply (take_xi T c (i := 5) (by decide) rfl credit_xi rfl) $$ He HO H5
  iintro HO H5
  iapply (take_xi T c (i := 6) (by decide) rfl credit_xi rfl) $$ He HO H6
  iintro HO H6
  iapply (take_rs T c (i := 0) (by decide) rfl (credit_rs 0 (by decide)) rfl) $$ He HO H0
  iintro HO H0
  iapply step_ret
  iapply Hk $$ HO H3 H4 H5 H6 H0

theorem part38 {Φ} : ⊢ iprop(env T -∗ OW c 28 -∗ due c 4 0 -∗ due c 2 1 -∗ due c 4 1
    -∗ (OW c 28 -∗ gotSs c 0 (by decide) -∗ gotRs c 1 (by decide) -∗ gotSs c 1 (by decide) -∗ Φ ⟨⟩)
    -∗ WP c (k0_part38 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  rw [k0_part38_eq_skeleton]; unfold k0_part38_skel
  simp only [Prog.lift, Prog.bind_op, Prog.bind_ret, Prog.pure_eq_ret]
  iintro #He HO H0 H1 H2 Hk
  iapply (take_ss T c (i := 0) (by decide) rfl (credit_ss 0 (by decide)) rfl) $$ He HO H0
  iintro HO H0
  iapply (take_rs T c (i := 1) (by decide) rfl (credit_rs 1 (by decide)) rfl) $$ He HO H1
  iintro HO H1
  iapply (take_ss T c (i := 1) (by decide) rfl (credit_ss 1 (by decide)) rfl) $$ He HO H2
  iintro HO H2
  iapply step_ret
  iapply Hk $$ HO H0 H1 H2

theorem part39 {Φ} : ⊢ iprop(env T -∗ OW c 28 -∗ due c 2 2 -∗ due c 4 2 -∗ due c 2 3 -∗ due c 4 3
    -∗ (OW c 28 -∗ gotRs c 2 (by decide) -∗ gotSs c 2 (by decide) -∗ gotRs c 3 (by decide) -∗ gotSs c 3 (by decide) -∗ Φ ⟨⟩)
    -∗ WP c (k0_part39 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  rw [k0_part39_eq_skeleton]; unfold k0_part39_skel
  simp only [Prog.lift, Prog.bind_op, Prog.bind_ret, Prog.pure_eq_ret]
  iintro #He HO H0 H1 H2 H3 Hk
  iapply (take_rs T c (i := 2) (by decide) rfl (credit_rs 2 (by decide)) rfl) $$ He HO H0
  iintro HO H0
  iapply (take_ss T c (i := 2) (by decide) rfl (credit_ss 2 (by decide)) rfl) $$ He HO H1
  iintro HO H1
  iapply (take_rs T c (i := 3) (by decide) rfl (credit_rs 3 (by decide)) rfl) $$ He HO H2
  iintro HO H2
  iapply (take_ss T c (i := 3) (by decide) rfl (credit_ss 3 (by decide)) rfl) $$ He HO H3
  iintro HO H3
  iapply step_ret
  iapply Hk $$ HO H0 H1 H2 H3

theorem part40 {Φ} : ⊢ iprop(env T -∗ OW c 28 -∗ due c 2 4 -∗ due c 4 4 -∗ due c 2 5
    -∗ (OW c 28 -∗ gotRs c 4 (by decide) -∗ gotSs c 4 (by decide) -∗ gotRs c 5 (by decide) -∗ Φ ⟨⟩)
    -∗ WP c (k0_part40 (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  rw [k0_part40_eq_skeleton]; unfold k0_part40_skel
  simp only [Prog.lift, Prog.bind_op, Prog.bind_ret, Prog.pure_eq_ret]
  iintro #He HO H0 H1 H2 Hk
  iapply (take_rs T c (i := 4) (by decide) rfl (credit_rs 4 (by decide)) rfl) $$ He HO H0
  iintro HO H0
  iapply (take_ss T c (i := 4) (by decide) rfl (credit_ss 4 (by decide)) rfl) $$ He HO H1
  iintro HO H1
  iapply (take_rs T c (i := 5) (by decide) rfl (credit_rs 5 (by decide)) rfl) $$ He HO H2
  iintro HO H2
  iapply step_ret
  iapply Hk $$ HO H0 H1 H2

end Parts

end Cert.KProof

end
-- ==== Proof.Slots.lean ====
/-
The scratch buffers held whole and slot by slot.
-/
module

public import proofs.«01_k».proof.Proof.Collect
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## A buffer of seven slots, whole and slot by slot -/

section Split
variable (M : Memref sig .tc .vmem S7x2x128x512 .i8) (c : Dev nD)

theorem disjX (b b' : Fin 7) (h : b ≠ b') : Disjoint (rX b.val b.isLt).set (rX b'.val b'.isLt).set :=
  Ring.lead_disjoint (s := S7x2x128x512) (NB := 7) (0 : Fin 4) 1 (fun b => ![b.val, 0, 0, 0]) S1x2x128x512.size (fun b => inbX b.val b.isLt)
    (fun b => (Nat.one_mul _).symm) rfl b b' h
theorem coverX : Finset.univ.biUnion (fun b : Fin 7 => (rX b.val b.isLt).set) = Finset.univ :=
  Ring.lead_cover (s := S7x2x128x512) (NB := 7) (0 : Fin 4) 1 (fun b => ![b.val, 0, 0, 0]) S1x2x128x512.size (fun b => inbX b.val b.isLt)
    (fun b => (Nat.one_mul _).symm) (fun b a h => by fin_cases a <;> first | exact absurd rfl h | rfl) rfl
    (fun a h => by fin_cases a <;> first | exact absurd rfl h | rfl) rfl
theorem disjS (b b' : Fin 7) (h : b ≠ b') : Disjoint (rS b.val b.isLt).set (rS b'.val b'.isLt).set :=
  Ring.lead_disjoint (s := S7x8x128) (NB := 7) (0 : Fin 3) 1 (fun b => ![b.val, 0, 0]) S1x8x128.size (fun b => inbS b.val b.isLt)
    (fun b => (Nat.one_mul _).symm) rfl b b' h
theorem coverS : Finset.univ.biUnion (fun b : Fin 7 => (rS b.val b.isLt).set) = Finset.univ :=
  Ring.lead_cover (s := S7x8x128) (NB := 7) (0 : Fin 3) 1 (fun b => ![b.val, 0, 0]) S1x8x128.size (fun b => inbS b.val b.isLt)
    (fun b => (Nat.one_mul _).symm) (fun b a h => by fin_cases a <;> first | exact absurd rfl h | rfl) rfl
    (fun a h => by fin_cases a <;> first | exact absurd rfl h | rfl) rfl

end Split

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

variable (c : Dev nD)

/-- A whole buffer of rows at some contents is its seven slots at some contents; and back. -/
def wholeAny (b : Ref sig .tc) : sProp 𝕄 := iprop(∃ f : Buf (Elt F) ((c : Thread nD τ).loc b), ((c : Thread nD τ).loc b) ↦{fullShare} f)

section Any
variable {s : Shape} {e : EltTy} {cs : CoreSpace} (b : Ref sig .tc) (R : Fin 7 → Rect b.ty.shape)
  (hd : ∀ i j, i ≠ j → Disjoint (R i).set (R j).set) (hc : Finset.univ.biUnion (fun i => (R i).set) = Finset.univ)

include hd hc in
theorem split_any : wholeAny (F := F) c b
    ⊢ bigSep Finset.univ fun i : Fin 7 => iprop(∃ f : Buf (Elt F) ((c : Thread nD τ).loc b), ((c : Thread nD τ).loc b) ↦[(R i).set]{fullShare} f) := by
  have h (f : Buf (Elt F) ((c : Thread nD τ).loc b)) : (((c : Thread nD τ).loc b) ↦{fullShare} f : sProp 𝕄)
      ⊢ bigSep Finset.univ fun i : Fin 7 => iprop(∃ f : Buf (Elt F) ((c : Thread nD τ).loc b), ((c : Thread nD τ).loc b) ↦[(R i).set]{fullShare} f) := by
    rw [Ring.pointsTo_blocks (ℓ := (c : Thread nD τ).loc b) (fun i => (R i).set) hd hc (q := fullShare) f]
    exact bigSep_mono fun i _ => show (((c : Thread nD τ).loc b) ↦[(R i).set]{fullShare} f : sProp 𝕄) ⊢ iprop(∃ f : Buf (Elt F) ((c : Thread nD τ).loc b), ((c : Thread nD τ).loc b) ↦[(R i).set]{fullShare} f) from by
      iintro H; iexists f; iexact H
  unfold wholeAny
  iintro ⟨%f, H⟩
  iapply (h f) $$ H

include hd hc in
theorem join_any (f₀ : Buf (Elt F) ((c : Thread nD τ).loc b)) :
    (bigSep Finset.univ fun i : Fin 7 => iprop(∃ f : Buf (Elt F) ((c : Thread nD τ).loc b), ((c : Thread nD τ).loc b) ↦[(R i).set]{fullShare} f))
      ⊢ wholeAny (F := F) c b :=
  Ring.pointsTo_blocks_join_exists (ℓ := (c : Thread nD τ).loc b) (fun i => (R i).set) hd hc f₀
end Any

/-- The seven slots of a buffer of rows, of scales, at some contents. -/
abbrev sevenX (M : Memref sig .tc .vmem S7x2x128x512 .i8) : sProp 𝕄 := bigSep Finset.univ fun i : Fin 7 => anyX (F := F) M c i.val i.isLt
abbrev sevenS (M : Memref sig .tc .vmem S7x8x128 .f32) : sProp 𝕄 := bigSep Finset.univ fun i : Fin 7 => anyS (F := F) M c i.val i.isLt

theorem split_ag : wholeAny (F := F) c cc0_scratch1 ⊢ sevenX c agM := by
  refine (split_any c cc0_scratch1 (fun i => rX i.val i.isLt) disjX coverX).trans (Entails.of_eq (bigSep_congr fun i _ => ?_))
  unfold anyX anyR slotP
  rw [show ((agM).access (rX i.val i.isLt)).set = (rX i.val i.isLt).set from View.set_slice_whole _ _]
theorem join_ag : sevenX (F := F) c agM ⊢ wholeAny c cc0_scratch1 := by
  refine (Entails.of_eq (bigSep_congr fun i _ => ?_)).trans (join_any c cc0_scratch1 (fun i => rX i.val i.isLt) disjX coverX (fun _ => (0#8 : BitVec 8)))
  unfold anyX anyR slotP
  rw [show ((agM).access (rX i.val i.isLt)).set = (rX i.val i.isLt).set from View.set_slice_whole _ _]

theorem split_rs : wholeAny (F := F) c cc0_scratch2 ⊢ sevenX c rsM := by
  refine (split_any c cc0_scratch2 (fun i => rX i.val i.isLt) disjX coverX).trans (Entails.of_eq (bigSep_congr fun i _ => ?_))
  unfold anyX anyR slotP
  rw [show ((rsM).access (rX i.val i.isLt)).set = (rX i.val i.isLt).set from View.set_slice_whole _ _]
theorem join_rs : sevenX (F := F) c rsM ⊢ wholeAny c cc0_scratch2 := by
  refine (Entails.of_eq (bigSep_congr fun i _ => ?_)).trans (join_any c cc0_scratch2 (fun i => rX i.val i.isLt) disjX coverX (fun _ => (0#8 : BitVec 8)))
  unfold anyX anyR slotP
  rw [show ((rsM).access (rX i.val i.isLt)).set = (rX i.val i.isLt).set from View.set_slice_whole _ _]

theorem split_rr : wholeAny (F := F) c cc0_scratch3 ⊢ sevenX c rrM := by
  refine (split_any c cc0_scratch3 (fun i => rX i.val i.isLt) disjX coverX).trans (Entails.of_eq (bigSep_congr fun i _ => ?_))
  unfold anyX anyR slotP
  rw [show ((rrM).access (rX i.val i.isLt)).set = (rX i.val i.isLt).set from View.set_slice_whole _ _]
theorem join_rr : sevenX (F := F) c rrM ⊢ wholeAny c cc0_scratch3 := by
  refine (Entails.of_eq (bigSep_congr fun i _ => ?_)).trans (join_any c cc0_scratch3 (fun i => rX i.val i.isLt) disjX coverX (fun _ => (0#8 : BitVec 8)))
  unfold anyX anyR slotP
  rw [show ((rrM).access (rX i.val i.isLt)).set = (rX i.val i.isLt).set from View.set_slice_whole _ _]

theorem split_ss : wholeAny (F := F) c cc0_scratch4 ⊢ sevenS c ssM := by
  refine (split_any c cc0_scratch4 (fun i => rS i.val i.isLt) disjS coverS).trans (Entails.of_eq (bigSep_congr fun i _ => ?_))
  unfold anyS anyR slotP
  rw [show ((ssM).access (rS i.val i.isLt)).set = (rS i.val i.isLt).set from View.set_slice_whole _ _]
theorem join_ss : sevenS (F := F) c ssM ⊢ wholeAny c cc0_scratch4 := by
  refine (Entails.of_eq (bigSep_congr fun i _ => ?_)).trans (join_any c cc0_scratch4 (fun i => rS i.val i.isLt) disjS coverS (constant (F := F) S7x8x128 .f32 0x00000000#32))
  unfold anyS anyR slotP
  rw [show ((ssM).access (rS i.val i.isLt)).set = (rS i.val i.isLt).set from View.set_slice_whole _ _]

theorem split_sr : wholeAny (F := F) c cc0_scratch5 ⊢ sevenS c srM := by
  refine (split_any c cc0_scratch5 (fun i => rS i.val i.isLt) disjS coverS).trans (Entails.of_eq (bigSep_congr fun i _ => ?_))
  unfold anyS anyR slotP
  rw [show ((srM).access (rS i.val i.isLt)).set = (rS i.val i.isLt).set from View.set_slice_whole _ _]
theorem join_sr : sevenS (F := F) c srM ⊢ wholeAny c cc0_scratch5 := by
  refine (Entails.of_eq (bigSep_congr fun i _ => ?_)).trans (join_any c cc0_scratch5 (fun i => rS i.val i.isLt) disjS coverS (constant (F := F) S7x8x128 .f32 0x00000000#32))
  unfold anyS anyR slotP
  rw [show ((srM).access (rS i.val i.isLt)).set = (rS i.val i.isLt).set from View.set_slice_whole _ _]

end Cert.KProof

end
-- ==== Proof.Body.lean ====
/-
The whole kernel on one device: its parts in order, from what the launch and the staging give it to what it leaves.
-/
module

public import proofs.«01_k».proof.Proof.Slots

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-- A program followed by another. -/
theorem step_bind {c : Dev nD} {α β : Type} (p : Prog (TpuEff nD τ sig (Elt F) Λ₀ .tc) α) (k : α → Prog (TpuEff nD τ sig (Elt F) Λ₀ .tc) β) {Q : β → sProp 𝕄} :
    ⊢ iprop(WP c p (fun a => WP c (k a) Q) -∗ WP c (p >>= k) Q) := by
  unfold WP; rw [wp_bind]; iintro H; iexact H

variable (T : Vals F) (c : Dev nD)

/-- What device `c` holds for its exchanges of number `i` before it starts: the tokens of the payments it makes, the
    credits of the arrivals it will await, and its own slots. -/
def crew (i : ℕ) (hi : i < 7) : sProp 𝕄 :=
  iprop(tokB c i ∗ barPay c i hi ∗ tokD c (fw c i) 0 i ∗ tokD c (bk c i) 2 i ∗ tokD c (bk c i) 4 i
    ∗ due c 1 i ∗ due c 3 i ∗ due c 5 i ∗ anyX rsM c i hi ∗ anyS ssM c i hi)

/-- The slots of the other devices that the barrier lends device `c` for the exchanges of number `i`. -/
def gift (i : ℕ) (hi : i < 7) : sProp 𝕄 := iprop(anyX agM (fw c i) i hi ∗ anyX rrM (bk c i) i hi ∗ anyS srM (bk c i) i hi)

/-- What it holds for them when everything has been awaited: the six counters at zero, the slots back, the received
    blocks in them. -/
def home (i : ℕ) (hi : i < 7) : sProp 𝕄 :=
  iprop(gotXi T c i ∗ gotAg T c i hi ∗ gotRs c i hi ∗ gotRr T c i hi ∗ gotSs c i hi ∗ gotSr T c i hi)

theorem barPay_of {i j : ℕ} (hi : i < 7) (hj : j < 7) (h : i + j = 6) :
    barPay (F := F) (bk c i) i hi = iprop(anyX agM (fw c j) j hj ∗ anyX rrM (bk c i) i hi ∗ anyS srM (bk c i) i hi) := by
  obtain rfl : j = 6 - i := by omega
  unfold barPay
  rw [bk_eq_fw c i (6 - i) h]

/-- The seven lent parts, in the order of the exchanges. -/
theorem barGot_open : barGot T c ⊢ iprop(gift c 0 (by decide) ∗ gift c 1 (by decide) ∗ gift c 2 (by decide) ∗ gift c 3 (by decide)
    ∗ gift c 4 (by decide) ∗ gift c 5 (by decide) ∗ gift c 6 (by decide)) := by
  unfold barGot gift
  rw [bigSep_range7]
  rw [payload_bar T c (i := 0) (by decide), barPay_of c (i := 0) (j := 6) (by decide) (by decide) rfl]
  rw [payload_bar T c (i := 1) (by decide), barPay_of c (i := 1) (j := 5) (by decide) (by decide) rfl]
  rw [payload_bar T c (i := 2) (by decide), barPay_of c (i := 2) (j := 4) (by decide) (by decide) rfl]
  rw [payload_bar T c (i := 3) (by decide), barPay_of c (i := 3) (j := 3) (by decide) (by decide) rfl]
  rw [payload_bar T c (i := 4) (by decide), barPay_of c (i := 4) (j := 2) (by decide) (by decide) rfl]
  rw [payload_bar T c (i := 5) (by decide), barPay_of c (i := 5) (j := 1) (by decide) (by decide) rfl]
  rw [payload_bar T c (i := 6) (by decide), barPay_of c (i := 6) (j := 0) (by decide) (by decide) rfl]
  iintro ⟨⟨A6, R0, S0⟩, ⟨A5, R1, S1⟩, ⟨A4, R2, S2⟩, ⟨A3, R3, S3⟩, ⟨A2, R4, S4⟩, ⟨A1, R5, S5⟩, ⟨A0, R6, S6⟩⟩
  isplitl [A0 R0 S0]
  · isplitl [A0]; · iexact A0
    isplitl [R0] <;> iassumption
  isplitl [A1 R1 S1]
  · isplitl [A1]; · iexact A1
    isplitl [R1] <;> iassumption
  isplitl [A2 R2 S2]
  · isplitl [A2]; · iexact A2
    isplitl [R2] <;> iassumption
  isplitl [A3 R3 S3]
  · isplitl [A3]; · iexact A3
    isplitl [R3] <;> iassumption
  isplitl [A4 R4 S4]
  · isplitl [A4]; · iexact A4
    isplitl [R4] <;> iassumption
  isplitl [A5 R5 S5]
  · isplitl [A5]; · iexact A5
    isplitl [R5] <;> iassumption
  isplitl [A6]; · iexact A6
  isplitl [R6] <;> iassumption

section Run
variable (A : Args F)

/-- The contents of device `c`'s staged operands agree with the operands `A`. -/
structure Staged (x : Vec F S2x128x512 .bf16) (wq wo : Vec F S512x512 .bf16) (K V : Vec F S2x128x64x64 .bf16) : Prop where
  x : A.x c = x
  wq : A.wq c = wq
  wo : A.wo c = wo
  k : A.k c = kAt c K
  v : A.v c = vAt c V

set_option maxHeartbeats 4000000 in
/-- The whole kernel on device `c`. -/
theorem body_run {Φ : PUnit → sProp 𝕄} {x : Vec F S2x128x512 .bf16} {wq wo : Vec F S512x512 .bf16} {K V : Vec F S2x128x64x64 .bf16}
    {f : Vec F S2x128x512 .f32} {f₀ : Vec F S2x128x512 .i8} (hst : Staged c A x wq wo K V) :
    ⊢ iprop(env (valsOf A) -∗ OW c 0 -∗ barWait c
      -∗ (crew c 0 (by decide) ∗ crew c 1 (by decide) ∗ crew c 2 (by decide) ∗ crew c 3 (by decide) ∗ crew c 4 (by decide) ∗ crew c 5 (by decide) ∗ crew c 6 (by decide))
      -∗ buf c cc0_stg0_0 x -∗ buf c cc0_stg1_0 wq -∗ buf c cc0_stg2_0 wo -∗ buf c cc0_stg3_0 K -∗ buf c cc0_stg4_0 V -∗ buf c cc0_stg5_0 f -∗ buf c cc0_scratch0 f₀
      -∗ (OW c 28 -∗ semVal (barCell c) 0 -∗ xiP c (shareDrop fullShare 7) ((valsOf A).x8 c)
        -∗ (home (valsOf A) c 0 (by decide) ∗ home (valsOf A) c 1 (by decide) ∗ home (valsOf A) c 2 (by decide) ∗ home (valsOf A) c 3 (by decide) ∗ home (valsOf A) c 4 (by decide) ∗ home (valsOf A) c 5 (by decide) ∗ home (valsOf A) c 6 (by decide))
        -∗ buf c cc0_stg0_0 x -∗ buf c cc0_stg1_0 wq -∗ buf c cc0_stg2_0 wo -∗ buf c cc0_stg3_0 K -∗ buf c cc0_stg4_0 V -∗ buf c cc0_stg5_0 (resultOf A c) -∗ Φ ⟨⟩)
      -∗ WP c (cc0_body (F := F) a0 w0 a1 w1 a2 w2 a3 w3 a4 w4 a5 w5 xiM w6 agM w7 rsM w8 rrM w9 ssM w10 srM w11 cc0_scratch6 cc0_scratch7 cc0_scratch8 cc0_scratch9 cc0_scratch10 cc0_scratch11) Φ) := by
  obtain ⟨hx, hwq, hwo, hk, hv⟩ := hst
  subst hx; subst hwq; subst hwo
  rw [show resultOf A c = k0_pay57 (k0_pay55 (k0_pay54 (k0_pay53 (k0_pay52 (k0_pay51 (k0_pay50 (k0_pay7 (kk A c) (vv A c) (wwq A c) (wwo A c) qs ((valsOf A).x8 c)) (scl (valsOf A) c 0) (rec (valsOf A) c 0)) (scl (valsOf A) c 1) (rec (valsOf A) c 1)) (scl (valsOf A) c 2) (rec (valsOf A) c 2)) (scl (valsOf A) c 3) (rec (valsOf A) c 3)) (scl (valsOf A) c 4) (rec (valsOf A) c 4)) (scl (valsOf A) c 5) (rec (valsOf A) c 5)) (k0_pay56 (scl (valsOf A) c 6)) (rec (valsOf A) c 6) from rfl]
  rw [cc0_body_eq_skeleton]; unfold cc0_body_skel
  unfold crew
  iintro #He HO Hbw ⟨⟨Tb0, Bp0, Ta0, Tr0, Ts0, W10, W30, W50, Xr0, Xs0⟩, ⟨Tb1, Bp1, Ta1, Tr1, Ts1, W11, W31, W51, Xr1, Xs1⟩, ⟨Tb2, Bp2, Ta2, Tr2, Ts2, W12, W32, W52, Xr2, Xs2⟩, ⟨Tb3, Bp3, Ta3, Tr3, Ts3, W13, W33, W53, Xr3, Xs3⟩, ⟨Tb4, Bp4, Ta4, Tr4, Ts4, W14, W34, W54, Xr4, Xs4⟩, ⟨Tb5, Bp5, Ta5, Tr5, Ts5, W15, W35, W55, Xr5, Xs5⟩, ⟨Tb6, Bp6, Ta6, Tr6, Ts6, W16, W36, W56, Xr6, Xs6⟩⟩ B0 B1 B2 B3 B4 B5 X0 Hk
  iapply step_bind
  rw [k0_part41_eq_skeleton]; unfold k0_part41_skel
  iapply step_bind
  iapply (part1 (valsOf A) c) $$ He HO Tb0 Bp0 Tb1 Bp1
  iintro %v2 %v30 %u1 %u2 HO
  iapply step_bind
  iapply (part2 (valsOf A) c) $$ He HO Tb2 Bp2 Tb3 Bp3
  iintro %v59 %v64 %v65 HO
  iapply step_bind
  iapply (part3 (valsOf A) c) $$ He HO Tb4 Bp4 Tb5 Bp5 Tb6 Bp6 Hbw
  iintro HO Hbar Hg
  ihave Hg := (barGot_open (valsOf A) c) $$ Hg
  unfold gift
  icases Hg with ⟨⟨Ga0, Gr0, Gs0⟩, ⟨Ga1, Gr1, Gs1⟩, ⟨Ga2, Gr2, Gs2⟩, ⟨Ga3, Gr3, Gs3⟩, ⟨Ga4, Gr4, Gs4⟩, ⟨Ga5, Gr5, Gs5⟩, ⟨Ga6, Gr6, Gs6⟩⟩
  iapply step_bind
  iapply (part4 (valsOf A) c _ rfl _) $$ He HO B0 X0 Ta0 Ga0
  iintro %v129 HO B0 D00 Xd X1 X2 X3 X4 X5 X6
  iapply step_bind
  iapply (part5 (valsOf A) c) $$ He HO [Ta1 X1 Ga1]
  · unfold agGo; isplitl [Ta1]; · iexact Ta1
    isplitl [X1] <;> iassumption
  iintro HO D01
  iapply step_bind
  iapply (part6 (valsOf A) c) $$ He HO [Ta2 X2 Ga2] [Ta3 X3 Ga3]
  · unfold agGo; isplitl [Ta2]; · iexact Ta2
    isplitl [X2] <;> iassumption
  · unfold agGo; isplitl [Ta3]; · iexact Ta3
    isplitl [X3] <;> iassumption
  iintro %v189 %v194 %v195 HO D02 D03
  iapply step_bind
  iapply (part7 (valsOf A) c) $$ He HO [Ta4 X4 Ga4] [Ta5 X5 Ga5]
  · unfold agGo; isplitl [Ta4]; · iexact Ta4
    isplitl [X4] <;> iassumption
  · unfold agGo; isplitl [Ta5]; · iexact Ta5
    isplitl [X5] <;> iassumption
  iintro %v224 %v226 HO D04 D05
  iapply step_bind
  iapply (part8 (valsOf A) c K V _ _) $$ He HO [Ta6 X6 Ga6] B3 B4 B1 B2
  · unfold agGo; isplitl [Ta6]; · iexact Ta6
    isplitl [X6] <;> iassumption
  iintro HO D06 B3 B4 B1 B2
  rw [← hk, ← hv]
  iapply step_bind
  iapply (part9 (valsOf A) c _ _ _ _ _) $$ He HO Xd W10
  iintro HO Xd G10
  iapply step_bind
  iapply (part10 c _ _ _ _)
  iapply step_bind
  iapply (part11 c) $$ Xr0 Xs0
  iintro %v369 Xr0 Xs0
  rw [show k0_pay13 (k0_pay11 (kk A c) (vv A c) (wwq A c) (wwo A c) (k0_pay8 qs (gath (valsOf A) c 0))) k0_pay12 = (valsOf A).rs c 0 from rfl, show k0_pay14 (k0_pay10 (kk A c) (vv A c) (wwq A c) (wwo A c) (k0_pay8 qs (gath (valsOf A) c 0))) = (valsOf A).sc c 0 from rfl]
  iapply step_bind
  iapply (part12 (valsOf A) c _ _) $$ He HO [Tr0 Gr0] Xr0 [Ts0 Gs0] Xs0 W11
  · unfold rsGo; isplitl [Tr0]; · iexact Tr0
    iexact Gr0
  · unfold scGo; isplitl [Ts0]; · iexact Ts0
    iexact Gs0
  iintro HO D20 D40 G11
  iapply step_bind
  iapply (part13 c _ _ _) $$ Xr1
  iintro Xr1
  iapply step_bind
  iapply (part14 (valsOf A) c _ (rs_1 A c (gath (valsOf A) c 1))) $$ He HO Xr1 Xs1 [Tr1 Gr1]
  · unfold rsGo; isplitl [Tr1]; · iexact Tr1
    iexact Gr1
  iintro %v471 %o HO D21 Xs1
  rw [show k0_pay19 (k0_pay17 (kk A c) (vv A c) (wwo A c) (k0_pay15 (wwq A c) qs (gath (valsOf A) c 1))) = (valsOf A).sc c 1 from rfl]
  iapply step_bind
  iapply (part15 (valsOf A) c _ _ _ _) $$ He HO [Ts1 Gs1] Xs1 W12
  · unfold scGo; isplitl [Ts1]; · iexact Ts1
    iexact Gs1
  iintro HO D41 G12
  iapply step_bind
  iapply (part16 c _) $$ Xr2 Xs2
  iintro Xr2 Xs2
  rw [show k0_pay25 (wwo A c) (k0_pay21 (kk A c) (wwq A c) qs (gath (valsOf A) c 2)) (k0_pay22 (kk A c) (vv A c) (wwq A c) qs (gath (valsOf A) c 2)) = (valsOf A).rs c 2 from rfl]
  iapply step_bind
  iapply (part17 (valsOf A) c) $$ He HO Xr2 Xs2 [Tr2 Gr2]
  · unfold rsGo; isplitl [Tr2]; · iexact Tr2
    iexact Gr2
  iintro HO D22 Xs2
  rw [show k0_pay27 (k0_pay26 (wwo A c) (k0_pay21 (kk A c) (wwq A c) qs (gath (valsOf A) c 2)) (k0_pay22 (kk A c) (vv A c) (wwq A c) qs (gath (valsOf A) c 2))) = (valsOf A).sc c 2 from rfl]
  iapply step_bind
  iapply (part18 (valsOf A) c _ _ _ _) $$ He HO [Ts2 Gs2] Xs2 W13
  · unfold scGo; isplitl [Ts2]; · iexact Ts2
    iexact Gs2
  iintro HO D42 G13
  iapply step_bind
  iapply (part19 c _) $$ Xr3 Xs3
  iintro %v665 %u3 %w3 %o3 Xr3 Xs3
  rw [show k0_pay31 (wwo A c) (k0_pay28 (kk A c) (vv A c) (wwq A c) qs (gath (valsOf A) c 3)) zz = (valsOf A).rs c 3 from rfl, show k0_pay32 (wwo A c) (k0_pay28 (kk A c) (vv A c) (wwq A c) qs (gath (valsOf A) c 3)) zz = (valsOf A).sc c 3 from rfl]
  iapply step_bind
  iapply (part20 (valsOf A) c) $$ He HO [Tr3 Gr3] Xr3 [Ts3 Gs3] Xs3
  · unfold rsGo; isplitl [Tr3]; · iexact Tr3
    iexact Gr3
  · unfold scGo; isplitl [Ts3]; · iexact Ts3
    iexact Gs3
  iintro %o4 HO D23 D43
  iapply step_bind
  iapply (part21 (valsOf A) c _ _ _ _ _) $$ He HO W14
  iintro HO G14
  iapply step_bind
  iapply (part22 c) $$ Xr4 Xs4
  iintro %v769 %v770 %v775 Xr4 Xs4
  rw [show k0_pay36 (k0_pay33 (kk A c) (vv A c) (wwq A c) (wwo A c) qs (gath (valsOf A) c 4)) (k0_pay34 (kk A c) (vv A c) (wwq A c) (wwo A c) qs (gath (valsOf A) c 4)) = (valsOf A).rs c 4 from rfl, show k0_pay37 (k0_pay34 (kk A c) (vv A c) (wwq A c) (wwo A c) qs (gath (valsOf A) c 4)) = (valsOf A).sc c 4 from rfl]
  iapply step_bind
  iapply (part23 (valsOf A) c) $$ He HO [Tr4 Gr4] Xr4 [Ts4 Gs4] Xs4
  · unfold rsGo; isplitl [Tr4]; · iexact Tr4
    iexact Gr4
  · unfold scGo; isplitl [Ts4]; · iexact Ts4
    iexact Gs4
  iintro HO D24 D44
  iapply step_bind
  iapply (part24 (valsOf A) c _ _ _ _ _) $$ He HO W15
  iintro HO G15
  iapply step_bind
  iapply (part25 c) $$ Xr5 Xs5
  iintro %v879 Xr5 Xs5
  rw [show k0_pay41 (k0_pay38 (kk A c) (vv A c) (wwq A c) (wwo A c) qs (gath (valsOf A) c 5)) (k0_pay40 (kk A c) (vv A c) (wwq A c) (wwo A c) qs (gath (valsOf A) c 5)) = (valsOf A).rs c 5 from rfl, show k0_pay42 (k0_pay39 (kk A c) (vv A c) (wwq A c) (wwo A c) qs (gath (valsOf A) c 5)) = (valsOf A).sc c 5 from rfl]
  iapply step_bind
  iapply (part26 (valsOf A) c _) $$ He HO [Tr5 Gr5] Xr5 [Ts5 Gs5] Xs5 W16
  · unfold rsGo; isplitl [Tr5]; · iexact Tr5
    iexact Gr5
  · unfold scGo; isplitl [Ts5]; · iexact Ts5
    iexact Gs5
  iintro HO D25 D45 G16
  iapply step_bind
  iapply (part27 c _ _ _ _)
  iapply step_bind
  iapply (part28 c) $$ Xr6 Xs6
  iintro %v981 Xr6 Xs6
  rw [show k0_pay48 (k0_pay46 (kk A c) (vv A c) (wwq A c) (wwo A c) (k0_pay43 qs (gath (valsOf A) c 6))) k0_pay47 = (valsOf A).rs c 6 from rfl, show k0_pay49 (k0_pay45 (kk A c) (vv A c) (wwq A c) (wwo A c) (k0_pay43 qs (gath (valsOf A) c 6))) = (valsOf A).sc c 6 from rfl]
  iapply step_bind
  iapply (part29 (valsOf A) c) $$ He HO [Tr6 Gr6] Xr6 [Ts6 Gs6] Xs6 W30
  · unfold rsGo; isplitl [Tr6]; · iexact Tr6
    iexact Gr6
  · unfold scGo; isplitl [Ts6]; · iexact Ts6
    iexact Gs6
  iintro HO D26 D46 R0
  iapply step_bind
  iapply (part30 (valsOf A) c _) $$ He HO R0 W50 W31
  iintro HO R0 S0 R1
  iapply step_bind
  iapply (part31 (valsOf A) c _) $$ He HO R1 W51 W32
  iintro HO R1 S1 R2
  iapply step_bind
  iapply (part32 (valsOf A) c _) $$ He HO R2 W52 W33 W53
  iintro HO R2 S2 R3 S3
  iapply step_bind
  iapply (part33 (valsOf A) c _) $$ He HO R3 S3 W34 W54
  iintro HO R3 S3 R4 S4
  iapply step_bind
  iapply (part34 (valsOf A) c _) $$ He HO R4 S4 W35 W55
  iintro HO R4 S4 R5 S5
  iapply step_bind
  iapply (part35 (valsOf A) c _) $$ He HO R5 W36 W56
  iintro HO R5 R6 S6
  iapply step_bind
  iapply (part36 (valsOf A) c _) $$ He HO R6 B5 D00 D01 D02
  iintro HO R6 B5 E0 E1 E2
  iapply step_bind
  iapply (part37 (valsOf A) c) $$ He HO D03 D04 D05 D06 D20
  iintro HO E3 E4 E5 E6 Q0
  iapply step_bind
  iapply (part38 (valsOf A) c) $$ He HO D40 D21 D41
  iintro HO P0 Q1 P1
  iapply step_bind
  iapply (part39 (valsOf A) c) $$ He HO D22 D42 D23 D43
  iintro HO Q2 P2 Q3 P3
  iapply step_bind
  iapply (part40 (valsOf A) c) $$ He HO D24 D44 D25
  iintro HO Q4 P4 Q5
  simp only [Prog.lift, Prog.bind_op, Prog.bind_ret, Prog.pure_eq_ret]
  iapply (take_ss (valsOf A) c (i := 5) (by decide) rfl (credit_ss 5 (by decide)) rfl) $$ He HO D45
  iintro HO P5
  iapply step_ret
  iapply (take_rs (valsOf A) c (i := 6) (by decide) rfl (credit_rs 6 (by decide)) rfl) $$ He HO D26
  iintro HO Q6
  iapply (take_ss (valsOf A) c (i := 6) (by decide) rfl (credit_ss 6 (by decide)) rfl) $$ He HO D46
  iintro HO P6
  iapply step_ret
  iapply Hk $$ HO Hbar Xd [E0 G10 Q0 R0 P0 S0 E1 G11 Q1 R1 P1 S1 E2 G12 Q2 R2 P2 S2 E3 G13 Q3 R3 P3 S3 E4 G14 Q4 R4 P4 S4 E5 G15 Q5 R5 P5 S5 E6 G16 Q6 R6 P6 S6] B0 B1 B2 B3 B4 B5
  unfold home
  isplitl [E0 G10 Q0 R0 P0 S0]
  · isplitl [E0]; · iexact E0
    isplitl [G10]; · iexact G10
    isplitl [Q0]; · iexact Q0
    isplitl [R0]; · iexact R0
    isplitl [P0]; · iexact P0
    iexact S0
  isplitl [E1 G11 Q1 R1 P1 S1]
  · isplitl [E1]; · iexact E1
    isplitl [G11]; · iexact G11
    isplitl [Q1]; · iexact Q1
    isplitl [R1]; · iexact R1
    isplitl [P1]; · iexact P1
    iexact S1
  isplitl [E2 G12 Q2 R2 P2 S2]
  · isplitl [E2]; · iexact E2
    isplitl [G12]; · iexact G12
    isplitl [Q2]; · iexact Q2
    isplitl [R2]; · iexact R2
    isplitl [P2]; · iexact P2
    iexact S2
  isplitl [E3 G13 Q3 R3 P3 S3]
  · isplitl [E3]; · iexact E3
    isplitl [G13]; · iexact G13
    isplitl [Q3]; · iexact Q3
    isplitl [R3]; · iexact R3
    isplitl [P3]; · iexact P3
    iexact S3
  isplitl [E4 G14 Q4 R4 P4 S4]
  · isplitl [E4]; · iexact E4
    isplitl [G14]; · iexact G14
    isplitl [Q4]; · iexact Q4
    isplitl [R4]; · iexact R4
    isplitl [P4]; · iexact P4
    iexact S4
  isplitl [E5 G15 Q5 R5 P5 S5]
  · isplitl [E5]; · iexact E5
    isplitl [G15]; · iexact G15
    isplitl [Q5]; · iexact Q5
    isplitl [R5]; · iexact R5
    isplitl [P5]; · iexact P5
    iexact S5
  isplitl [E6]; · iexact E6
  isplitl [G16]; · iexact G16
  isplitl [Q6]; · iexact Q6
  isplitl [R6]; · iexact R6
  isplitl [P6]; · iexact P6
  iexact S6

end Run

end Cert.KProof

end
-- ==== Proof.Deal.lean ====
/-
The launch's ghost state: the cells are allocated, each device is handed the records of all of them, the positions of
its own, and the tokens of the payments it makes.
-/
module

public import proofs.«01_k».proof.Proof.Body
public import Idealize.ShloMosaic.Lib.Ring
public import proofs.«01_k».proof.Proof.Gen.KernelIdeal.Launch
public import proofs.«01_k».proof.Proof.Gen.KernelIdeal.Points

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## Separating conjunctions over the cells -/

theorem bigSep_opt {I : Type} [Fintype I] [DecidableEq I] (Φ : Option I → sProp 𝕄) :
    bigSep Finset.univ Φ = iprop(Φ none ∗ bigSep Finset.univ fun i : I => Φ (some i)) := by
  rw [BI.bigSep_univ_at Φ none, show (Finset.univ : Finset (Option I)).erase none = Finset.univ.map Function.Embedding.some from by
    ext x; cases x <;> simp, bigSep_map]
  rfl

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The seven slots' share of something. -/
abbrev seven (Φ : ℕ → sProp 𝕄) : sProp 𝕄 := bigSep Finset.univ fun i : Fin 7 => Φ i.val

theorem bigSep_ck (Φ : ℕ → ℕ → sProp 𝕄) : (bigSep Finset.univ fun ki : CK => Φ ki.1.val ki.2.val)
    = iprop(seven (Φ 0) ∗ seven (Φ 1) ∗ seven (Φ 2) ∗ seven (Φ 3) ∗ seven (Φ 4) ∗ seven (Φ 5)) := by
  rw [bigSep_univ_prod, bigSep_fin6]; rfl

/-- What each device has for the device `1 + i` places after it, or before it, dealt round. -/
theorem around_fw (Φ : Dev nD → ℕ → sProp 𝕄) :
    (bigSep Finset.univ fun c : Dev nD => seven (Φ c)) = bigSep Finset.univ fun c : Dev nD => seven fun i => Φ (fw c i) i := by
  rw [BI.bigSep_univ_comm, BI.bigSep_univ_comm (fun (c : Dev nD) (i : Fin 7) => Φ (fw c i.val) i.val)]
  exact bigSep_congr fun i _ => bigSep_univ_equiv (ring i.val) (fun c : Dev nD => Φ c i.val)
theorem around_bk (Φ : Dev nD → ℕ → sProp 𝕄) :
    (bigSep Finset.univ fun c : Dev nD => seven (Φ c)) = bigSep Finset.univ fun c : Dev nD => seven fun i => Φ (bk c i) i := by
  rw [BI.bigSep_univ_comm, BI.bigSep_univ_comm (fun (c : Dev nD) (i : Fin 7) => Φ (bk c i.val) i.val)]
  exact bigSep_congr fun i _ => bigSep_univ_equiv (ring i.val).symm (fun c : Dev nD => Φ c i.val)

/-! ## The cells and the tokens -/

theorem dsem_inj {k i k' i' : ℕ} (hk : k < 6) (hi : i < 7) (hk' : k' < 6) (hi' : i' < 7) (h : dsem k i = dsem k' i') : k = k' ∧ i = i' := by
  have e : (dsem k i).val = (dsem k' i').val := congrArg Fin.val h
  rw [dsem_val hk hi, dsem_val hk' hi'] at e
  omega

/-- The kernel's own semaphores. -/
abbrev osem (ki : CK) : SemLoc sig := .dma (dsem ki.1.val ki.2.val)
theorem osem_inj : Function.Injective osem := fun a b h => by
  obtain ⟨h1, h2⟩ := dsem_inj a.1.isLt a.2.isLt b.1.isLt b.2.isLt (SemLoc.dma.inj h)
  exact Prod.ext (Fin.ext h1) (Fin.ext h2)
theorem ownSemFacts : Pipeline.OwnSemFacts cfg0.spec osem := ⟨by decide, osem_inj, by decide⟩

theorem kcell_injective : Function.Injective kcell := by
  rintro ⟨c, k⟩ ⟨c', k'⟩ h
  have hc : c = c' := by
    have := congrArg (fun g : GSem nD τ sig => g.1.1) h
    cases k <;> cases k' <;> exact this
  subst hc
  cases k with
  | none => cases k' with
    | none => rfl
    | some b => cases congrArg Prod.snd h
  | some a => cases k' with
    | none => cases congrArg Prod.snd h
    | some b => rw [osem_inj (congrArg Prod.snd h : osem a = osem b)]
def ringCells : Finset (GSem nD τ sig) := Finset.univ.map ⟨kcell, kcell_injective⟩

/-- The tokens as minted, by the cell they belong to: a barrier's seven, a transfer's one. -/
def tokOf (x : Dev nD × (Fin 7 ⊕ CK)) : GSem nD τ sig × ℕ × ℕ := match x.2 with
  | .inl i => (barCell x.1, 0, i.val)
  | .inr ki => (dcell x.1 ki.1.val ki.2.val, 0, 0)
theorem tokOf_injective : Function.Injective tokOf := by
  rintro ⟨c, k⟩ ⟨c', k'⟩ h
  have hc : c = c' := by
    have := congrArg (fun x : GSem nD τ sig × ℕ × ℕ => x.1.1.1) h
    cases k <;> cases k' <;> exact this
  subst hc
  cases k with
  | inl i => cases k' with
    | inl j => rw [Fin.ext (congrArg (fun x : GSem nD τ sig × ℕ × ℕ => x.2.2) h : i.val = j.val)]
    | inr b => cases congrArg (fun x : GSem nD τ sig × ℕ × ℕ => x.1.2) h
  | inr a => cases k' with
    | inl j => cases congrArg (fun x : GSem nD τ sig × ℕ × ℕ => x.1.2) h
    | inr b => rw [osem_inj (congrArg (fun x : GSem nD τ sig × ℕ × ℕ => x.1.2) h : osem a = osem b)]
def ringToks : Finset (GSem nD τ sig × ℕ × ℕ) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun i : Fin 7 => dutyTok ER (barCell c) 0 i.val)
    ∗ bigSep Finset.univ fun ki : CK => dutyTok ER (dcell c ki.1.val ki.2.val) 0 0)

variable (T : Vals F)

/-- What the launch deals device `c` at first: its own cells' states, positions and tokens. -/
def G (c : Dev nD) : sProp 𝕄 :=
  iprop((bigSep Finset.univ fun k : Option CK => roundState ER (rd T) (kcell (c, k)) 0)
    ∗ (bigSep Finset.univ fun k : Option CK => iprop(atPos ER (kcell (c, k)) 0 ∅ 0 ∗ reached ER (kcell (c, k)) 0)) ∗ toks c)

theorem fund_ring : BI.own (ER (initOf ringCells ringToks)) ⊢ (|==> bigSep Finset.univ (G T) : sProp 𝕄) := by
  have hX (Φ : GSem nD τ sig → sProp 𝕄) : bigSep ringCells Φ = bigSep Finset.univ fun c : Dev nD => bigSep Finset.univ fun k : Option CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (rd T) ringCells ringToks) $$ HX with ⟨Hst, Hr, Hat, Htok⟩
  imodintro
  ihave Hst' := (Entails.of_eq (hX fun g => roundState ER (rd T) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev own0 (c : Dev nD) : sProp 𝕄 := Pipeline.ownSems0 (Ix := Unit) (Name := ℕ) (U := UU) (Lvl := ℕ) (Val := Elt F) (τ := τ) osem c

theorem sems0_eq (c : Dev nD) : iprop(own0 c ∗ unscopedSems0 c) ⊢ (bigSep Finset.univ fun k : Option CK => semVal (kcell (c, k)) 0 : sProp 𝕄) := by
  rw [unscopedSems0_eq, bigSep_opt]
  show iprop((bigSep Finset.univ fun ki : CK => semVal (kcell (c, some ki)) 0) ∗ semVal (barCell c) 0) ⊢ iprop(semVal (barCell c) 0 ∗ bigSep Finset.univ fun ki : CK => (semVal (kcell (c, some ki)) 0 : sProp 𝕄))
  iintro ⟨H, HB⟩
  isplitl [HB]; · iexact HB
  iexact H

theorem core_alloc (c : Dev nD) :
    iprop(own0 c ∗ unscopedSems0 c ∗ G T c)
      ⊢ |={Set.univ}=> iprop((bigSep Finset.univ fun k => iprop(∃ κ : ℕ, cellInv ER (rd T) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option CK => semVal (kcell (c, k)) 0) ∗ bigSep Finset.univ fun k : Option CK => roundState ER (rd T) (kcell (c, k)) 0)
      ⊢ (|={Set.univ}=> bigSep Finset.univ fun k => iprop(∃ κ : ℕ, cellInv ER (rd T) κ (kcell (c, k))) : sProp 𝕄) from by
        rw [← bigSep_sep']
        exact (bigSep_mono fun k _ => (Rounds.body_intro ER (rd T) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with for the exchanges of number `i`. -/
def payToks (c : Dev nD) (i : ℕ) : sProp 𝕄 :=
  iprop(dutyTok ER (barCell (fw c i)) 0 i ∗ dutyTok ER (dcell c 0 i) 0 0 ∗ dutyTok ER (dcell (fw c i) 1 i) 0 0
    ∗ dutyTok ER (dcell c 2 i) 0 0 ∗ dutyTok ER (dcell (bk c i) 3 i) 0 0 ∗ dutyTok ER (dcell c 4 i) 0 0 ∗ dutyTok ER (dcell (bk c i) 5 i) 0 0)

theorem toks_around : (bigSep Finset.univ fun c : Dev nD => (toks c : sProp 𝕄)) ⊢ bigSep Finset.univ fun c : Dev nD => seven (payToks (F := F) c) := by
  have e (c : Dev nD) : (toks c : sProp 𝕄) = iprop(seven (fun i => dutyTok ER (barCell c) 0 i) ∗ seven (fun i => dutyTok ER (dcell c 0 i) 0 0)
      ∗ seven (fun i => dutyTok ER (dcell c 1 i) 0 0) ∗ seven (fun i => dutyTok ER (dcell c 2 i) 0 0) ∗ seven (fun i => dutyTok ER (dcell c 3 i) 0 0)
      ∗ seven (fun i => dutyTok ER (dcell c 4 i) 0 0) ∗ seven (fun i => dutyTok ER (dcell c 5 i) 0 0)) := by
    unfold toks; rw [bigSep_ck (fun k i => dutyTok ER (dcell c k i) 0 0)]
  rw [bigSep_congr fun c _ => e c]
  unfold payToks
  simp only [bigSep_sep']
  rw [around_fw (fun (c : Dev nD) i => (dutyTok ER (barCell c) 0 i : sProp 𝕄)), around_fw (fun (c : Dev nD) i => (dutyTok ER (dcell c 1 i) 0 0 : sProp 𝕄)),
    around_bk (fun (c : Dev nD) i => (dutyTok ER (dcell c 3 i) 0 0 : sProp 𝕄)), around_bk (fun (c : Dev nD) i => (dutyTok ER (dcell c 5 i) 0 0 : sProp 𝕄))]

/-- The ghost state for the exchanges of number `i`: the tokens and the positions. -/
def gI (c : Dev nD) (i : ℕ) : sProp 𝕄 :=
  iprop(tokB c i ∗ tokD c (fw c i) 0 i ∗ tokD c (bk c i) 2 i ∗ tokD c (bk c i) 4 i
    ∗ atPos ER (dcell c 1 i) 0 ∅ 0 ∗ atPos ER (dcell c 3 i) 0 ∅ 0 ∗ atPos ER (dcell c 5 i) 0 ∅ 0)

/-- What device `c` starts from. -/
def G' (c : Dev nD) : sProp 𝕄 := iprop(records T ∗ atPos ER (barCell c) 0 ∅ 0 ∗ seven (gI (F := F) c))

theorem linear_intro (c : Dev nD) :
    iprop((bigSep Finset.univ fun k : Option CK => atPos ER (kcell (c, k)) 0 ∅ 0) ∗ seven (payToks (F := F) c))
      ⊢ iprop(atPos ER (barCell c) 0 ∅ 0 ∗ seven (gI (F := F) c)) := by
  have e : (bigSep Finset.univ fun k : Option CK => (atPos ER (kcell (c, k)) 0 ∅ 0 : sProp 𝕄)) = iprop(atPos ER (barCell c) 0 ∅ 0
      ∗ seven (fun i => atPos ER (dcell c 0 i) 0 ∅ 0) ∗ seven (fun i => atPos ER (dcell c 1 i) 0 ∅ 0) ∗ seven (fun i => atPos ER (dcell c 2 i) 0 ∅ 0)
      ∗ seven (fun i => atPos ER (dcell c 3 i) 0 ∅ 0) ∗ seven (fun i => atPos ER (dcell c 4 i) 0 ∅ 0) ∗ seven (fun i => atPos ER (dcell c 5 i) 0 ∅ 0)) := by
    rw [bigSep_opt, ← bigSep_ck (fun k i => atPos ER (dcell c k i) 0 ∅ 0)]; rfl
  rw [e]
  unfold payToks gI tokB tokD
  simp only [bigSep_sep']
  iintro ⟨⟨HB, A0, A1, A2, A3, A4, A5⟩, TB, T0, T1, T2, T3, T4, T5⟩
  isplitl [HB]; · iexact HB
  isplitl [TB]; · iexact TB
  isplitl [T0 T1 A0]
  · isplitl [T0]; · iexact T0
    isplitl [T1] <;> iassumption
  isplitl [T2 T3 A2]
  · isplitl [T2]; · iexact T2
    isplitl [T3] <;> iassumption
  isplitl [T4 T5 A4]
  · isplitl [T4]; · iexact T4
    isplitl [T5] <;> iassumption
  isplitl [A1]; · iexact A1
  isplitl [A3] <;> iassumption

theorem regroup :
    (bigSep Finset.univ fun c : Dev nD => iprop((bigSep Finset.univ fun k => iprop(∃ κ : ℕ, cellInv ER (rd T) κ (kcell (c, k))))
          ∗ (bigSep Finset.univ fun k => iprop(atPos ER (kcell (c, k)) 0 ∅ 0 ∗ reached ER (kcell (c, k)) 0)) ∗ toks c) : sProp 𝕄)
      ⊢ bigSep Finset.univ (G' T) := by
  rw [bigSep_sep', bigSep_sep', ← bigSep_univ_prod (fun ck : Dev nD × Option CK => iprop(∃ κ : ℕ, cellInv ER (rd T) κ (kcell ck))),
    bigSep_congr (s := Finset.univ) (fun (c : Dev nD) _ => bigSep_sep' Finset.univ (fun k : Option CK => (atPos ER (kcell (c, k)) 0 ∅ 0 : sProp 𝕄)) (fun k => reached ER (kcell (c, k)) 0)),
    bigSep_sep', ← bigSep_univ_prod (fun ck : Dev nD × Option CK => (reached ER (kcell ck) 0 : sProp 𝕄))]
  iintro ⟨HI, ⟨Hat, HR⟩, Htok⟩
  ihave #Hrec := (show iprop((bigSep Finset.univ fun ck : Dev nD × Option CK => iprop(∃ κ : ℕ, cellInv ER (rd T) κ (kcell ck)))
      ∗ bigSep Finset.univ fun ck : Dev nD × Option CK => (reached ER (kcell ck) 0 : sProp 𝕄)) ⊢ records T from
    Entails.of_eq (bigSep_sep' Finset.univ (fun ck : Dev nD × Option CK => iprop(∃ κ : ℕ, cellInv ER (rd T) κ (kcell ck)))
      (fun ck => (reached ER (kcell ck) 0 : sProp 𝕄))).symm) $$ [HI HR]
  · isplitl [HI] <;> iassumption
  ihave Htk := (toks_around (F := F)) $$ Htok
  iapply (BI.bigSep_with_persistent (R := records T)
    (Φ := fun c : Dev nD => iprop((bigSep Finset.univ fun k : Option CK => atPos ER (kcell (c, k)) 0 ∅ 0) ∗ seven (payToks (F := F) c)))
    (fun c _ => show _ ⊢ G' T c from sep_mono_right (linear_intro c)))
  isplitr; · iexact Hrec
  rw [bigSep_sep']
  isplitl [Hat] <;> iassumption

/-- The global step: every device's semaphores at once become the cells. -/
theorem glob : (bigSep Finset.univ fun c => iprop(own0 c ∗ unscopedSems0 c ∗ G T c) : sProp 𝕄)
    ⊢ |={Set.univ}=> bigSep Finset.univ (G' T) :=
  ((bigSep_mono fun c _ => core_alloc T c).trans (bigSep_fupd _ _)).trans (BI.fupd_mono (regroup T))

end Cert.KProof

end
-- ==== Proof.Credit.lean ====
/-
What the launch gives a device, sorted by exchange: the credits of what the others owe it, the slots its buffers split
into; and, at the end, the buffers and counters put together again.
-/
module

public import proofs.«01_k».proof.Proof.Deal

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The launch's credit -/

/-- What device `d` owes a cell, debt by debt. -/
theorem ow_at (d : Dev nD) (g : GSem nD τ sig) (l : List (ℕ × ℕ)) :
    ow d l g () = (l.map fun x => if g = dueCell d x then dueAmt x else 0).sum := by
  induction l with
  | nil => rfl
  | cons x l ih =>
    unfold ow
    rw [Pi.add_apply, Finsupp.add_apply, ih, tallyAt_apply, List.map_cons, List.sum_cons, Nat.add_comm]
    congr 1
    by_cases h : g = dueCell d x
    · rw [if_pos h, if_pos ⟨h, rfl⟩]
    · rw [if_neg h, if_neg (fun h' => h h'.1)]

theorem sum_list {α : Type} (l : List α) (f : α → Dev nD → ℕ) :
    (∑ d : Dev nD, (l.map fun x => f x d).sum) = (l.map fun x => ∑ d : Dev nD, f x d).sum := by
  induction l with
  | nil => simp
  | cons x l ih => simp only [List.map_cons, List.sum_cons, Finset.sum_add_distrib, ih]

theorem sum_one (e : Dev nD) (p : Dev nD → Prop) [DecidablePred p] (a : ℕ) (h : ∀ d, p d ↔ d = e) :
    (∑ d : Dev nD, if p d then a else 0) = a := by
  rw [Finset.sum_congr rfl fun d _ => if_congr (h d) rfl rfl, Finset.sum_ite_eq' Finset.univ e fun _ => a, if_pos (Finset.mem_univ _)]

theorem bar_iff {a b : Dev nD} : barCell a = barCell b ↔ a = b :=
  ⟨fun h => Fin.ext (congrArg (fun g : GSem nD τ sig => g.1.1.val) h), fun h => h ▸ rfl⟩
theorem dcell_iff {a b : Dev nD} {k i k' i' : ℕ} (hk : k < 6) (hi : i < 7) (hk' : k' < 6) (hi' : i' < 7) :
    dcell a k i = dcell b k' i' ↔ a = b ∧ (k', i') = (k, i) :=
  ⟨fun h => by
    obtain ⟨rfl, rfl⟩ := dsem_inj hk hi hk' hi' (SemLoc.dma.inj (congrArg Prod.snd h))
    exact ⟨Fin.ext (congrArg (fun g : GSem nD τ sig => g.1.1.val) h), rfl⟩, fun ⟨h1, h2⟩ => by cases h1; cases h2; rfl⟩
theorem fw_iff (c d : Dev nD) (i : ℕ) : c = fw d i ↔ d = bk c i :=
  ⟨fun h => by rw [h, bk_fw], fun h => by rw [h, fw_bk]⟩
theorem bk_iff (c d : Dev nD) (i : ℕ) : c = bk d i ↔ d = fw c i :=
  ⟨fun h => by rw [h, fw_bk], fun h => by rw [h, bk_fw]⟩

/-- What all devices owe the barrier cell of `c` by the debt `x`. -/
theorem sum_bar (c : Dev nD) (x : ℕ × ℕ) : (∑ d : Dev nD, if barCell c = dueCell d x then dueAmt x else 0) = if x.1 = 6 then 1 else 0 := by
  obtain ⟨k, i⟩ := x
  unfold dueCell dueAmt
  dsimp only
  by_cases h : k = 6
  · simp only [if_pos h]
    exact sum_one (bk c i) _ _ fun d => bar_iff.trans (fw_iff c d i)
  · simp only [if_neg h]
    refine Finset.sum_eq_zero fun d _ => if_neg fun h' => ?_
    have := congrArg Prod.snd h'
    split at this <;> cases this
/-- What they owe a transfer's cell by it. -/
theorem sum_d (c : Dev nD) {k i : ℕ} (hk : k < 6) (hi : i < 7) (x : ℕ × ℕ) (hx : IsDue x) :
    (∑ d : Dev nD, if dcell c k i = dueCell d x then dueAmt x else 0) = if x = (k, i) then amtK k else 0 := by
  obtain ⟨k', i'⟩ := x
  obtain ⟨hk', hi'⟩ := hx
  dsimp only at hk' hi'
  have key (e : Dev nD → Dev nD) (e' : Dev nD) (he : ∀ d, c = e d ↔ d = e') (hk6 : k' < 6) :
      (∑ d : Dev nD, if dcell c k i = dcell (e d) k' i' then amtK k' else 0) = if (k', i') = (k, i) then amtK k else 0 := by
    by_cases h : (k', i') = (k, i)
    · rw [if_pos h]; cases h
      exact sum_one e' _ _ fun d => (dcell_iff hk hi hk hi).trans ((and_iff_left rfl).trans (he d))
    · rw [if_neg h]
      exact Finset.sum_eq_zero fun d _ => if_neg fun h' => h ((dcell_iff hk hi hk6 hi').mp h').2
  unfold dueCell dueAmt
  dsimp only
  rcases hk' with rfl | rfl | rfl | rfl
  · show (∑ d : Dev nD, if dcell c k i = barCell (fw d i') then 1 else 0) = _
    rw [if_neg (fun h : (6, i') = (k, i) => by have := (Prod.mk.inj h).1; omega)]
    exact Finset.sum_eq_zero fun d _ => if_neg fun h' => by cases congrArg Prod.snd h'
  · exact key (fun d => fw d i') (bk c i') (fun d => fw_iff c d i') (by decide)
  · exact key (fun d => bk d i') (fw c i') (fun d => bk_iff c d i') (by decide)
  · exact key (fun d => bk d i') (fw c i') (fun d => bk_iff c d i') (by decide)

/-- What a device owes at the start. -/
abbrev O₀ (c : Dev nD) : CellTallies nD τ sig Unit := ow c (dl 0)

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => ow_at d (barCell c) (dl 0), sum_list,
    List.map_congr_left fun x _ => sum_bar c x]
  rfl

theorem one_due (a : ℕ) (k i : ℕ) (hk : k = 1 ∨ k = 3 ∨ k = 5) (hi : i < 7) : ((dl 0).map fun x => if x = (k, i) then a else 0).sum = a := by
  have hi' : i = 0 ∨ i = 1 ∨ i = 2 ∨ i = 3 ∨ i = 4 ∨ i = 5 ∨ i = 6 := by omega
  rcases hk with rfl | rfl | rfl <;> rcases hi' with rfl | rfl | rfl | rfl | rfl | rfl | rfl <;> simp [dl, allDues]

theorem launch_d (c : Dev nD) {k i : ℕ} (hk : k = 1 ∨ k = 3 ∨ k = 5) (hi : i < 7) :
    tallyOn (dcell c k i) (launchCredit (Pipeline.owing O₀) 0 (dcell c k i)) = (tallyAt (dcell c k i) () (amtK k) : CellTallies nD τ sig Unit) := by
  unfold tallyAt; refine congrArg _ (Finsupp.ext fun u => ?_); cases u
  rw [Pipeline.launchCredit_owing, Finsupp.single_eq_same, Finset.sum_congr rfl fun d _ => ow_at d (dcell c k i) (dl 0), sum_list,
    List.map_congr_left fun x hx => sum_d c (by omega) hi x (dl_due 0 (by decide) x hx), one_due _ k i hk hi]

/-- The kernel's semaphores, the barrier's among them. -/
abbrev csem (k : Option CK) : SemLoc sig := match k with
  | none => .reg barS
  | some ki => osem ki
theorem csem_inj : Function.Injective csem := fun a b h => by
  have : (((0 : Dev nD), a) : Dev nD × Option CK) = (0, b) := kcell_injective (by
    cases a <;> cases b <;> exact congrArg (fun s => (((0 : Dev nD) : Thread nD τ), s)) h)
  exact (Prod.mk.inj this).2

/-- The credits of the arrivals of number `i`. -/
def cI (c : Dev nD) (i : ℕ) : sProp 𝕄 :=
  iprop(cred (tallyAt (dcell c 1 i) () (amtK 1)) ∗ cred (tallyAt (dcell c 3 i) () (amtK 3)) ∗ cred (tallyAt (dcell c 5 i) () (amtK 5)))

theorem launch_seven (c : Dev nD) (k : ℕ) (hk : k = 1 ∨ k = 3 ∨ k = 5) :
    seven (fun i => (cred (tallyOn (dcell c k i) (launchCredit (Pipeline.owing O₀) 0 (dcell c k i))) : sProp 𝕄))
      = seven (fun i => cred (tallyAt (dcell c k i) () (amtK k))) :=
  bigSep_congr fun i _ => congrArg (fun t : CellTallies nD τ sig Unit => (cred t : sProp 𝕄)) (launch_d c hk i.isLt)

theorem creds (c : Dev nD) :
    (Pipeline.launchCred O₀ c : sProp 𝕄) ⊢ iprop(cred (tallyAt (barCell c) () 7) ∗ seven (cI (F := F) c)) := by
  unfold Pipeline.launchCred
  refine (BI.bigSep_subset (Finset.subset_univ (Finset.univ.map ⟨csem, csem_inj⟩))).trans ?_
  rw [bigSep_map, bigSep_opt]
  refine BIBase.Entails.trans (show _ ⊢ iprop(cred (tallyOn (barCell c) (launchCredit (Pipeline.owing O₀) 0 (barCell c)))
    ∗ bigSep Finset.univ fun ki : CK => (cred (tallyOn (dcell c ki.1.val ki.2.val) (launchCredit (Pipeline.owing O₀) 0 (dcell c ki.1.val ki.2.val))) : sProp 𝕄)) from BI.Entails.refl _) ?_
  rw [bigSep_ck (fun k i => (cred (tallyOn (dcell c k i) (launchCredit (Pipeline.owing O₀) 0 (dcell c k i))) : sProp 𝕄)), launch_bar]
  unfold cI
  simp only [bigSep_sep']
  rw [launch_seven c 1 (Or.inl rfl), launch_seven c 3 (Or.inr (Or.inl rfl)), launch_seven c 5 (Or.inr (Or.inr rfl))]
  iintro ⟨HB, -, H1, -, H3, -, H5⟩
  isplitl [HB]; · iexact HB
  isplitl [H1]; · iexact H1
  isplitl [H3] <;> iassumption

/-! ## The buffers into slots and back -/

/-- The slots device `c` lends and fills for the exchanges of number `i`. -/
def sI (c : Dev nD) (i : Fin 7) : sProp 𝕄 :=
  iprop(barPay c i.val i.isLt ∗ anyX rsM c i.val i.isLt ∗ anyS ssM c i.val i.isLt)

theorem anyX_congr (M : Memref sig .tc .vmem S7x2x128x512 .i8) (c : Dev nD) {i j : ℕ} (h : i = j) (hi : i < 7) (hj : j < 7) :
    anyX (F := F) M c i hi = anyX M c j hj := by subst h; rfl

theorem slots_intro (c : Dev nD) :
    iprop(wholeAny (F := F) c cc0_scratch1 ∗ wholeAny c cc0_scratch2 ∗ wholeAny c cc0_scratch3 ∗ wholeAny c cc0_scratch4 ∗ wholeAny c cc0_scratch5)
      ⊢ bigSep Finset.univ (sI (F := F) c) := by
  unfold sI barPay
  simp only [bigSep_sep']
  have rev : sevenX (F := F) c agM = bigSep Finset.univ fun i : Fin 7 => anyX agM c (6 - i.val) (by omega) :=
    (bigSep_univ_equiv Fin.revPerm (fun i : Fin 7 => anyX (F := F) agM c i.val i.isLt)).trans
      (bigSep_congr fun i _ => anyX_congr agM c (by rw [Fin.revPerm_apply, Fin.val_rev]; omega) _ _)
  iintro ⟨H1, H2, H3, H4, H5⟩
  ihave S1 := ((split_ag c).trans (Entails.of_eq rev)) $$ H1
  ihave S2 := (split_rs c) $$ H2
  ihave S3 := (split_rr c) $$ H3
  ihave S4 := (split_ss c) $$ H4
  ihave S5 := (split_sr c) $$ H5
  isplitl [S1 S3 S5]
  · isplitl [S1]; · iexact S1
    isplitl [S3] <;> iassumption
  isplitl [S2] <;> iassumption

/-- The ghost state, the credits and the slots make the seven crews. -/
theorem crews_intro (c : Dev nD) :
    iprop(seven (gI (F := F) c) ∗ seven (cI (F := F) c) ∗ bigSep Finset.univ (sI (F := F) c)) ⊢ bigSep Finset.univ fun i : Fin 7 => crew (F := F) c i.val i.isLt := by
  rw [← bigSep_sep', ← bigSep_sep']
  refine bigSep_mono fun i _ => show iprop(gI (F := F) c i.val ∗ cI (F := F) c i.val ∗ sI (F := F) c i) ⊢ crew (F := F) c i.val i.isLt from ?_
  unfold gI cI sI crew due
  iintro ⟨⟨T, T0, T2, T4, A1, A3, A5⟩, ⟨C1, C3, C5⟩, B, R, S⟩
  isplitl [T]; · iexact T
  isplitl [B]; · iexact B
  isplitl [T0]; · iexact T0
  isplitl [T2]; · iexact T2
  isplitl [T4]; · iexact T4
  isplitl [C1 A1]; · isplitl [C1] <;> iassumption
  isplitl [C3 A3]; · isplitl [C3] <;> iassumption
  isplitl [C5 A5]; · isplitl [C5] <;> iassumption
  isplitl [R] <;> iassumption

variable (T : Vals F)

/-- What is left of the exchanges at the end: the counters at zero, the shares of the quantised rows, the slots. -/
theorem homes_elim (c : Dev nD) :
    iprop(xiP c (shareDrop fullShare 7) (T.x8 c) ∗ bigSep Finset.univ fun i : Fin 7 => home T c i.val i.isLt)
      ⊢ iprop(own0 c ∗ buf c cc0_scratch0 (T.x8 c) ∗ wholeAny (F := F) c cc0_scratch1 ∗ wholeAny c cc0_scratch2 ∗ wholeAny c cc0_scratch3
        ∗ wholeAny c cc0_scratch4 ∗ wholeAny c cc0_scratch5) := by
  have h (i : Fin 7) : home T c i.val i.isLt ⊢ iprop((semVal (dcell c 0 i.val) 0 ∗ semVal (dcell c 1 i.val) 0 ∗ semVal (dcell c 2 i.val) 0
      ∗ semVal (dcell c 3 i.val) 0 ∗ semVal (dcell c 4 i.val) 0 ∗ semVal (dcell c 5 i.val) 0)
      ∗ xiP c (shareTokN fullShare i.val) (T.x8 c) ∗ anyX agM c i.val i.isLt ∗ anyX rsM c i.val i.isLt ∗ anyX rrM c i.val i.isLt
      ∗ anyS ssM c i.val i.isLt ∗ anyS srM c i.val i.isLt) := by
    unfold home gotXi gotAg gotRs gotRr gotSs gotSr
    iintro ⟨⟨V0, X⟩, ⟨V1, G1⟩, ⟨V2, G2⟩, ⟨V3, G3⟩, ⟨V4, G4⟩, V5, G5⟩
    isplitl [V0 V1 V2 V3 V4 V5]
    · isplitl [V0]; · iexact V0
      isplitl [V1]; · iexact V1
      isplitl [V2]; · iexact V2
      isplitl [V3]; · iexact V3
      isplitl [V4] <;> iassumption
    isplitl [X]; · iexact X
    isplitl [G1]; · iapply (atR_any agM c (rX i.val i.isLt) _); iexact G1
    isplitl [G2]; · iexact G2
    isplitl [G3]; · iapply (atR_any rrM c (rX i.val i.isLt) _); iexact G3
    isplitl [G4]; · iexact G4
    iapply (atR_any srM c (rS i.val i.isLt) _); iexact G5
  refine (sep_mono_right (bigSep_mono fun i _ => h i)).trans ?_
  simp only [bigSep_sep']
  iintro ⟨D, ⟨V0, V1, V2, V3, V4, V5⟩, X, G1, G2, G3, G4, G5⟩
  isplitl [V0 V1 V2 V3 V4 V5]
  · iapply (show iprop(seven (fun i => semVal (dcell c 0 i) 0) ∗ seven (fun i => semVal (dcell c 1 i) 0) ∗ seven (fun i => semVal (dcell c 2 i) 0)
        ∗ seven (fun i => semVal (dcell c 3 i) 0) ∗ seven (fun i => semVal (dcell c 4 i) 0) ∗ seven (fun i => (semVal (dcell c 5 i) 0 : sProp 𝕄))) ⊢ own0 c from
      Entails.of_eq (bigSep_ck (fun k i => (semVal (dcell c k i) 0 : sProp 𝕄))).symm)
    isplitl [V0]; · iexact V0
    isplitl [V1]; · iexact V1
    isplitl [V2]; · iexact V2
    isplitl [V3]; · iexact V3
    isplitl [V4] <;> iassumption
  isplitl [D X]
  · iapply (xi_join c (T.x8 c))
    isplitl [D]; · iexact D
    iapply (Entails.of_eq (bigSep_fin7 (fun i : Fin 7 => xiP c (shareTokN fullShare i.val) (T.x8 c)))); iexact X
  isplitl [G1]; · iapply (join_ag c); iexact G1
  isplitl [G2]; · iapply (join_rs c); iexact G2
  isplitl [G3]; · iapply (join_rr c); iexact G3
  isplitl [G4]; · iapply (join_ss c); iexact G4
  iapply (join_sr c); iexact G5

end Cert.KProof

end
-- ==== Proof.Launch.lean ====
/-
The launch: what the pipeline of one grid point holds before and after the kernel, and the kernel's run between them.
-/
module

public import proofs.«01_k».proof.Proof.Credit

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- What the windows stage of each operand. -/
def xst (c : Dev nD) : Vec F S2x128x512 .bf16 := (win0_0.blk (0 : Fin 1)).view.read (Elt F) (m ((c : Thread nD τ).loc main_arg0))
def wqst (c : Dev nD) : Vec F S512x512 .bf16 := (win0_1.blk (0 : Fin 1)).view.read (Elt F) (m ((c : Thread nD τ).loc main_arg1))
def wost (c : Dev nD) : Vec F S512x512 .bf16 := (win0_2.blk (0 : Fin 1)).view.read (Elt F) (m ((c : Thread nD τ).loc main_arg4))
def kst (c : Dev nD) : Vec F S2x128x64x64 .bf16 := (win0_3.blk (0 : Fin 1)).view.read (Elt F) (m ((c : Thread nD τ).loc main_arg2))
def vst (c : Dev nD) : Vec F S2x128x64x64 .bf16 := (win0_4.blk (0 : Fin 1)).view.read (Elt F) (m ((c : Thread nD τ).loc main_arg3))

/-- The operands of the kernel in the memory at launch. -/
def argsOf : Args F where
  x c := xst m c
  k c := kAt c (kst m c)
  v c := vAt c (vst m c)
  wq c := wqst m c
  wo c := wost m c

theorem staged (c : Dev nD) : Staged c (argsOf m) (xst m c) (wqst m c) (wost m c) (kst m c) (vst m c) := ⟨rfl, rfl, rfl, rfl, rfl⟩

/-- What a device starts from: the cells' records, the levels, its tokens, positions and credits. -/
def start (c : Dev nD) : sProp 𝕄 :=
  iprop(env (valsOf (argsOf m)) ∗ barWait c ∗ seven (gI (F := F) c) ∗ seven (cI (F := F) c))
def Φ₀ (c : Dev nD) : sProp 𝕄 := iprop(start m c ∗ (∃ f : Vec F S2x128x512 .i8, buf c cc0_scratch0 f) ∗ wholeAny (F := F) c cc0_scratch1 ∗ wholeAny (F := F) c cc0_scratch2
  ∗ wholeAny (F := F) c cc0_scratch3 ∗ wholeAny (F := F) c cc0_scratch4 ∗ wholeAny (F := F) c cc0_scratch5)
/-- What it leaves: the counters at zero, the buffers. -/
def Φ₁ (c : Dev nD) : sProp 𝕄 := iprop(semVal (barCell c) 0 ∗ own0 c ∗ (∃ f : Vec F S2x128x512 .i8, buf c cc0_scratch0 f) ∗ wholeAny (F := F) c cc0_scratch1 ∗ wholeAny (F := F) c cc0_scratch2
  ∗ wholeAny (F := F) c cc0_scratch3 ∗ wholeAny (F := F) c cc0_scratch4 ∗ wholeAny (F := F) c cc0_scratch5)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => wost m c
    | ⟨3, _⟩ => kst m c
    | ⟨4, _⟩ => vst m c
    | ⟨5, _⟩ => resultOf (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xst m c) ∗ stg c cc0_stg1_0 (wqst m c) ∗ stg c cc0_stg2_0 (wost m c)
    ∗ stg c cc0_stg3_0 (kst m c) ∗ stg c cc0_stg4_0 (vst m c) ∗ stg c cc0_stg5_0 (resultOf (argsOf m) c))

/-- The crews, and what is left of them, one by one. -/
theorem crews_open (c : Dev nD) : (bigSep Finset.univ fun i : Fin 7 => crew (F := F) c i.val i.isLt) ⊢ iprop(crew (F := F) c 0 (by decide) ∗ crew (F := F) c 1 (by decide) ∗ crew (F := F) c 2 (by decide) ∗ crew (F := F) c 3 (by decide) ∗ crew (F := F) c 4 (by decide) ∗ crew (F := F) c 5 (by decide) ∗ crew (F := F) c 6 (by decide)) :=
  Entails.of_eq (bigSep_fin7 (fun i : Fin 7 => crew (F := F) c i.val i.isLt))
theorem homes_close (T : Vals F) (c : Dev nD) : iprop(home T c 0 (by decide) ∗ home T c 1 (by decide) ∗ home T c 2 (by decide) ∗ home T c 3 (by decide) ∗ home T c 4 (by decide) ∗ home T c 5 (by decide) ∗ home T c 6 (by decide)) ⊢ bigSep Finset.univ fun i : Fin 7 => home T c i.val i.isLt :=
  Entails.of_eq (bigSep_fin7 (fun i : Fin 7 => home T c i.val i.isLt)).symm

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 40000 in
set_option maxHeartbeats 1600000 in
/-- The library's obligation for the body on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (bodyAt0 t0_0) (fun _ => bodyPost m ρ c)
  unfold bodyPre Φ₀ start
  iintro ⟨⟨⟨#Henv, Hbw, Hg, Hc⟩, ⟨%f₀, Hs0⟩, Hs1, Hs2, Hs3, Hs4, Hs5⟩, Ho, ⟨%d0, %g0, %hg0, B0⟩, ⟨%d1, %g1, %hg1, B1⟩, ⟨%d2, %g2, %hg2, B2⟩, ⟨%d3, %g3, %hg3, B3⟩, ⟨%d4, %g4, %hg4, B4⟩, ⟨%d5, %g5, %hg5, B5⟩⟩
  have h0 : g0 = xst m c := by rw [hg0]; unfold Dat.before; rw [if_pos (fetch0_0 t0_0)]; rfl
  have h1 : g1 = wqst m c := by rw [hg1]; unfold Dat.before; rw [if_pos (fetch0_1 t0_0)]; rfl
  have h2 : g2 = wost m c := by rw [hg2]; unfold Dat.before; rw [if_pos (fetch0_2 t0_0)]; rfl
  have h3 : g3 = kst m c := by rw [hg3]; unfold Dat.before; rw [if_pos (fetch0_3 t0_0)]; rfl
  have h4 : g4 = vst m c := by rw [hg4]; unfold Dat.before; rw [if_pos (fetch0_4 t0_0)]; rfl
  subst h0 h1 h2 h3 h4
  unfold Dat.owesAt Pipeline.owesWithin
  icases Ho with ⟨%W, %hW, HO⟩
  ihave Hsl := (slots_intro c) $$ [Hs1 Hs2 Hs3 Hs4 Hs5]
  · isplitl [Hs1]; · iexact Hs1
    isplitl [Hs2]; · iexact Hs2
    isplitl [Hs3]; · iexact Hs3
    isplitl [Hs4] <;> iassumption
  ihave Hcr := (crews_intro c) $$ [Hg Hc Hsl]
  · isplitl [Hg]; · iexact Hg
    isplitl [Hc] <;> iassumption
  ihave Hcr' := (crews_open c) $$ Hcr
  iapply (body_run c (argsOf m) (f := g5) (f₀ := f₀) (staged m c)) $$ Henv [HO] Hbw Hcr' B0 B1 B2 B3 B4 B5 Hs0
  · unfold OW; iexists W; iexact HO
  iintro HO Hb Hx Hh B0 B1 B2 B3 B4 B5
  ihave Hh' := (homes_close (valsOf (argsOf m)) c) $$ Hh
  ihave He := (homes_elim (valsOf (argsOf m)) c) $$ [Hx Hh']
  · isplitl [Hx] <;> iassumption
  icases He with ⟨Hown, Hs0, Hs⟩
  unfold bodyPost Φ₁
  isplitl [Hb Hown Hs0 Hs]
  · isplitl [Hb]; · iexact Hb
    isplitl [Hown]; · iexact Hown
    isplitl [Hs0]
    · iexists _; iexact Hs0
    iexact Hs
  isplitl [HO]
  · unfold OW Dat.owesAt Pipeline.owesWithin
    icases HO with ⟨%W', HO⟩
    iexists W'
    isplitr
    · ipureintro
      exact fun _ _ => Or.inl trivial
    iexact HO
  isplitl [B0]
  · iexists _; isplitr; · (ipureintro; rfl)
    iexact B0
  isplitl [B1]
  · iexists _; isplitr; · (ipureintro; rfl)
    iexact B1
  isplitl [B2]
  · iexists _; isplitr; · (ipureintro; rfl)
    iexact B2
  isplitl [B3]
  · iexists _; isplitr; · (ipureintro; rfl)
    iexact B3
  isplitl [B4]
  · iexists _; isplitr; · (ipureintro; rfl)
    iexact B4
  iexists _; isplitr; · (ipureintro; rfl)
  iexact B5

end Cert.KProof

end
-- ==== Proof.Run.lean ====
/-
The run of the program on the eight devices.
-/
module

public import proofs.«01_k».proof.Proof.Launch
public import Idealize.ShloMosaic.Lib.Pipeline.CollectiveSegs
public import Idealize.ShloMosaic.Adequacy
public import Idealize.ShloMosaic.Init

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (valsOf (argsOf m)) c)
      ⊢ |={Set.univ}=> iprop(start m c ∗ emp) := by
  iintro ⟨-, Hlev, Hcr, -, HG⟩
  ihave Hc := (creds (F := F) c) $$ Hcr
  icases Hc with ⟨HB, HI⟩
  imodintro
  unfold start G' env barWait
  icases HG with ⟨Hrec, Hat, Hg⟩
  isplitl
  · isplitl [Hrec Hlev]
    · isplitl [Hrec] <;> iassumption
    isplitl [HB Hat]
    · isplitl [HB] <;> iassumption
    isplitl [Hg] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨HB, Ho, Hr⟩
  isplitl [HB]; · iexact HB
  isplitl [Ho]; · iexact Ho
  iexact Hr

theorem mayWait_zero (c : Dev nD) (sm : SemLoc sig) : (levAts L lv : sProp 𝕄) ⊢ MayWait (c : Thread nD τ) sm () 0 := by
  rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (dl 0) 0 (by revert s; revert w; decide) fun x hx => ⟨dl_due 0 (by decide) x hx, by
        have h : ∀ y ∈ allDues, 0 < dueLv y := by decide
        exact h x (List.mem_of_mem_drop hx)⟩
    · exact mayWait_zero c _

/-- The contents of a window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the eight devices terminates, with
    each window's array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (valsOf (argsOf m))) (G' := G' (valsOf (argsOf m))) (u₀ := u₀)
    (hu₀ := by
      unfold u₀
      iintro Hu
      ihave H := (ownU_pair _ _) $$ Hu
      icases H with ⟨HP, HX⟩
      imod (fund_ring (valsOf (argsOf m))) $$ HX with HG
      imodintro
      isplitl [HP] <;> iassumption)
    (hglob := glob (valsOf (argsOf m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The result's array, read through its window's one block, holds what the kernel computes. -/
theorem finalA_blk (c : Dev nD) : (win0_5.blk (0 : Fin 1)).view.read (Elt F) (finalA m ρ c (5 : Fin 6)) = resultOf (argsOf m) c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-! ## The blocks are the whole arrays -/

section Whole
variable (c : Dev nD)

theorem xst_eq : xst m c = m ((c : Thread nD τ).loc main_arg0) :=
  Memref.read_access_unit_zero (Elt F) main_arg0 (funext fun a => by fin_cases a <;> decide : (fun a => (win0_0.index (0 : Fin 1)) a * main_arg0.ty.shape.size a) = fun _ => 0)
    (fun a => by fin_cases a <;> decide) _
theorem wqst_eq : wqst m c = m ((c : Thread nD τ).loc main_arg1) :=
  Memref.read_access_unit_zero (Elt F) main_arg1 (funext fun a => by fin_cases a <;> decide : (fun a => (win0_1.index (0 : Fin 1)) a * main_arg1.ty.shape.size a) = fun _ => 0)
    (fun a => by fin_cases a <;> decide) _
theorem wost_eq : wost m c = m ((c : Thread nD τ).loc main_arg4) :=
  Memref.read_access_unit_zero (Elt F) main_arg4 (funext fun a => by fin_cases a <;> decide : (fun a => (win0_2.index (0 : Fin 1)) a * main_arg4.ty.shape.size a) = fun _ => 0)
    (fun a => by fin_cases a <;> decide) _
theorem kst_eq : kst m c = m ((c : Thread nD τ).loc main_arg2) :=
  Memref.read_access_unit_zero (Elt F) main_arg2 (funext fun a => by fin_cases a <;> decide : (fun a => (win0_3.index (0 : Fin 1)) a * main_arg2.ty.shape.size a) = fun _ => 0)
    (fun a => by fin_cases a <;> decide) _
theorem vst_eq : vst m c = m ((c : Thread nD τ).loc main_arg3) :=
  Memref.read_access_unit_zero (Elt F) main_arg3 (funext fun a => by fin_cases a <;> decide : (fun a => (win0_4.index (0 : Fin 1)) a * main_arg3.ty.shape.size a) = fun _ => 0)
    (fun a => by fin_cases a <;> decide) _
theorem finalA_out : finalA m ρ c (5 : Fin 6) = resultOf (argsOf m) c :=
  (Memref.read_access_unit_zero (Elt F) main_v1 (funext fun a => by fin_cases a <;> decide : (fun a => (win0_5.index (0 : Fin 1)) a * main_v1.ty.shape.size a) = fun _ => 0)
    (fun a => by fin_cases a <;> decide) _).symm.trans (finalA_blk m ρ c)
end Whole

end Cert.KProof

end
-- ==== Proof.Frames.lean ====
/-
The runs of the programs, read as the certificate states them.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-- The run, read at the program's arrays. -/
theorem run_arrays (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = resultOf (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (finalA_out m ρ c), (h.1 c (0 : Fin 6)).trans (finalA_in m ρ c 0 rfl),
    (h.1 c (1 : Fin 6)).trans (finalA_in m ρ c 1 rfl), (h.1 c (3 : Fin 6)).trans (finalA_in m ρ c 3 rfl),
    (h.1 c (4 : Fin 6)).trans (finalA_in m ρ c 4 rfl), (h.1 c (2 : Fin 6)).trans (finalA_in m ρ c 2 rfl)⟩, h.2⟩) (run_main m ρ)

/-- The kernel leaves its operands and the counters, read at the idealised values; -/
theorem frame_ideal : Cert.quiescent_KernelIdeal := fun m ρ _ =>
  (θ_run defs _ _).mono (fun _ h => ⟨fun c => (h.1 c).2, h.2⟩) (run_arrays (F := Ideal) m ρ)
theorem frame_ideal_pre : Cert.quiescent_KernelIdeal_pre_finite_KernelIdeal := fun m ρ _ =>
  (θ_run defs _ _).mono (fun _ h => ⟨fun c => (h.1 c).2, h.2⟩) (run_arrays (F := Ideal) m ρ)
set_option maxRecDepth 40000 in
/-- The two printed kernels have one body: they are the same text, printed under two names. -/
theorem body_same : @Cert.Kernel.cc0_body F _ Cert.Kernel.Gen.facts = @Cert.KernelIdeal.cc0_body F _ Cert.KernelIdeal.Gen.facts := rfl
set_option maxRecDepth 40000 in
/-- So their body tables agree, label by label (there is one label) … -/
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l
  match l with
  | 0 => exact funext fun x => rfl
/-- … and with the pipelines' labels added. -/
theorem defs_same : @Cert.Kernel.defs F _ Cert.Kernel.Gen.facts = @Cert.KernelIdeal.defs F _ Cert.KernelIdeal.Gen.facts := by
  unfold Cert.Kernel.defs Cert.KernelIdeal.defs
  exact congrArg _ table_same
set_option maxHeartbeats 4000000 in
set_option maxRecDepth 40000 in
/-- The kernel keeps its arguments at bits too: the run above, read for the other name. -/
theorem frame_kernel : Cert.quiescent_Kernel := fun m ρ _ => by
  rw [defs_same]
  exact (θ_run Cert.KernelIdeal.defs _ _).mono (fun _ h => ⟨fun c => (h.1 c).2, h.2⟩) (run_arrays (F := Bits) m ρ)

/-- The reference leaves its arguments, and has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ref_pre : Cert.quiescent_ReferenceIdeal_pre_finite_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.KProof

end
-- ==== Proof.Algebraic.lean ====
/-
The kernel computes what the reference does, over the reals: the claim, from the values of the two programs.
-/
module

public import proofs.«01_k».proof.Proof.Join
public import proofs.«01_k».proof.Proof.Finite
public import proofs.«01_k».proof.Proof.Frames

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.Pipeline (Dat Cfg Window BodyObligation cellOf)

variable {F : FTy → Type} [FloatOps F]

local notation "𝕄" => MT nD τ sig Unit (Elt F) ℕ UU ℕ

/-! ## The operands, element by element -/

/-- Where a device's head `h` lies among the sixty-four. -/
theorem rK_idx (c : Fin 8) (b : Fin 2) (j : Fin 128) (h : Fin 8) (t : Fin 64) :
    (rK c).toLoadRect.idx (ix4 b j h t) = ix4 b j ⟨c * 8 + h, by omega⟩ t := by
  have e : k0_off1 c = ![0, 0, 8 * c.val, 0] := k0_off1_eq c
  funext a
  apply Fin.ext
  rw [LoadRect.idx_apply]
  match a with
  | ⟨0, _⟩ => show (k0_off1 c) 0 + 1 * (b : ℕ) = b; rw [e]; show 0 + 1 * (b : ℕ) = b; omega
  | ⟨1, _⟩ => show (k0_off1 c) 1 + 1 * (j : ℕ) = j; rw [e]; show 0 + 1 * (j : ℕ) = j; omega
  | ⟨2, _⟩ => show (k0_off1 c) 2 + 1 * (h : ℕ) = (c : ℕ) * 8 + h; rw [e]; show 8 * (c : ℕ) + 1 * (h : ℕ) = (c : ℕ) * 8 + h; omega
  | ⟨3, _⟩ => show (k0_off1 c) 3 + 1 * (t : ℕ) = t; rw [e]; show 0 + 1 * (t : ℕ) = t; omega

theorem kAt_apply (c : Fin 8) (f : Vec F S2x128x64x64 .bf16) (b : Fin 2) (j : Fin 128) (h : Fin 8) (t : Fin 64) :
    kAt c f (ix4 b j h t) = f (ix4 b j ⟨c * 8 + h, by omega⟩ t) :=
  congrArg f (rK_idx c b j h t)

theorem vAt_apply (c : Fin 8) (f : Vec F S2x128x64x64 .bf16) (b : Fin 2) (j : Fin 128) (h : Fin 8) (t : Fin 64) :
    vAt c f (ix4 b j h t) = f (ix4 b j ⟨c * 8 + h, by omega⟩ t) :=
  congrArg f (rK_idx c b j h t)

/-- Block `c` of an array of rows. -/
theorem rows_block {α : Type} (c : Fin 8) (f : (⟨3, ![2, 1024, 512]⟩ : Shape).Idx → α) (b : Fin 2) (i : Fin 128) (a : Fin 512) :
    Layout.block ⟨3, ![2, 128, 512]⟩ ⟨3, ![2, 1024, 512]⟩ 1 8 c f (by decide) (ix3 b i a) = f (ix3 b ⟨c * 128 + i, by omega⟩ a) :=
  congrArg f (funext fun d => match d with
    | ⟨0, _⟩ => rfl
    | ⟨1, _⟩ => rfl
    | ⟨2, _⟩ => rfl)

/-- Block `g` of the query weights, and of the output weights. -/
theorem wq_block {α : Type} (g : Fin 8) (f : (⟨2, ![512, 4096]⟩ : Shape).Idx → α) (a n : Fin 512) :
    Layout.block ⟨2, ![512, 512]⟩ ⟨2, ![512, 4096]⟩ 1 8 g f (by decide) (ix2 a n) = f (ix2 a ⟨g * 512 + n, by omega⟩) :=
  congrArg f (funext fun d => match d with
    | ⟨0, _⟩ => rfl
    | ⟨1, _⟩ => rfl)

theorem wo_block {α : Type} (g : Fin 8) (f : (⟨2, ![4096, 512]⟩ : Shape).Idx → α) (n d : Fin 512) :
    Layout.block ⟨2, ![512, 512]⟩ ⟨2, ![4096, 512]⟩ 0 8 g f (by decide) (ix2 n d) = f (ix2 ⟨g * 512 + n, by omega⟩ d) :=
  congrArg f (funext fun d => match d with
    | ⟨0, _⟩ => rfl
    | ⟨1, _⟩ => rfl)

/-- Every column of the query weights is in some device's block. -/
theorem wq_cover {α : Type} (f : (⟨2, ![512, 4096]⟩ : Shape).Idx → α) (i : (⟨2, ![512, 4096]⟩ : Shape).Idx) :
    ∃ (g : Fin 8) (a n : Fin 512), f i = Layout.block ⟨2, ![512, 512]⟩ ⟨2, ![512, 4096]⟩ 1 8 g f (by decide) (ix2 a n) := by
  have h : ((i 1 : Fin 4096) : ℕ) < 4096 := (i 1 : Fin 4096).isLt
  refine ⟨⟨(i 1 : Fin 4096) / 512, by omega⟩, i 0, ⟨(i 1 : Fin 4096) % 512, by omega⟩, ?_⟩
  refine (congrArg f ((eq_ix2 i).trans (congrArg (fun n : Fin 4096 => ix2 (i 0 : Fin 512) n) (Fin.ext ?_)))).trans (wq_block _ f _ _).symm
  show ((i 1 : Fin 4096) : ℕ) = (i 1 : Fin 4096) / 512 * 512 + (i 1 : Fin 4096) % 512
  omega

/-! ## The claim -/

/-- The kernel and the reference, from operands laid out as the claim says, with real query weights and keys, end with the same result. -/
theorem same_result : Cert.algebraic_KernelIdeal_ReferenceIdeal_pre_finite_KernelIdeal := by
  intro m ρ m' ρ' hpre hin
  have hreal := fun c => pre_both _ _ _ _ _ (hpre c)
  have H : Blocks (argsOf m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hx := fun c b i a => (congrFun ((xst_eq m c).trans (hin c).1) (ix3 b i a)).trans (rows_block c _ b i a)
      hwq := fun g a n => (congrFun ((wqst_eq m g).trans (hin g).2.1) (ix2 a n)).trans (wq_block g _ a n)
      hk := fun g b j h t => (kAt_apply g (kst m g) b j h t).trans (congrFun ((kst_eq m g).trans (hin g).2.2.1) _)
      hv := fun g b j h t => (vAt_apply g (vst m g) b j h t).trans (congrFun ((vst_eq m g).trans (hin g).2.2.2.1) _)
      hwo := fun g n d => (congrFun ((wost_eq m g).trans (hin g).2.2.2.2) (ix2 n d)).trans (wo_block g _ n d)
      rq := fun i => by
        obtain ⟨g, a, n, e⟩ := wq_cover (m' (((0 : Dev Cert.ReferenceIdeal.nD).tc : Thread Cert.ReferenceIdeal.nD Cert.ReferenceIdeal.τ).loc Cert.ReferenceIdeal.main_arg1)) i
        obtain ⟨r, hr⟩ := (hreal g).1 (ix2 a n)
        exact ⟨r, (e.trans (congrFun (hin g).2.1 (ix2 a n)).symm).trans hr⟩
      rk := fun i => by
        obtain ⟨r, hr⟩ := (hreal 0).2 i
        exact ⟨r, (congrFun (hin 0).2.2.1 i).symm.trans hr⟩ }
  refine ⟨Cert.ReferenceIdeal.Value.res_main_v56 m' 0, ?_, ?_⟩
  · refine (θ_run defs _ _).mono (fun r h c => ⟨(h.1 c).1.trans ?_, (h.1 c).2⟩) (run_arrays (F := Ideal) m ρ)
    funext j
    rw [Cert.ReferenceIdeal.Read.val_main_v56_eq]
    have e := (result_same _ _ _ _ _ _ H c (j 0) (j 1) (j 2)).trans (rows_block c _ (j 0) (j 1) (j 2)).symm
    exact (congrArg (resultOf (argsOf m) c) (eq_ix3 j)).trans (e.trans (congrArg _ (eq_ix3 j).symm))
  · exact (θ_run Cert.ReferenceIdeal.defs _ _).mono (fun r h => h 0) (Cert.ReferenceIdeal.Value.run (F := Ideal) m' ρ')

end Cert.KProof

end
-- ==== Proof.lean ====
module

public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.KProof.frame_kernel, Cert.KProof.frame_ideal, Cert.KProof.frame_ideal_pre, Cert.KProof.frame_ref, Cert.KProof.frame_ref_pre,
    trivial, Cert.KProof.same_result⟩

end Cert.Proof

end
